-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs [hPre_attention_inputs : Cert.Pre_attention_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs [hPre_attention_inputs : Cert.Pre_attention_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_NormGlu (m : (ℓ : Loc Cert.NormGlu.nD Cert.NormGlu.τ Cert.NormGlu.sig) → Buf (Elt Bits) ℓ) : Prop :=
  True

def Pre_NormGluIdeal (m : (ℓ : Loc Cert.NormGluIdeal.nD Cert.NormGluIdeal.τ Cert.NormGluIdeal.sig) → Buf (Elt Ideal) ℓ) : Prop :=
  True

def Pre_NormGluRefIdeal (m : (ℓ : Loc Cert.NormGluRefIdeal.nD Cert.NormGluRefIdeal.τ Cert.NormGluRefIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesRefIdeal (m : (ℓ : Loc Cert.QueriesRefIdeal.nD Cert.QueriesRefIdeal.τ Cert.QueriesRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_attention_inputs [hKernelIdeal : Cert.KernelIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_attention_inputs [hReferenceIdeal : Cert.ReferenceIdeal.Facts] [hPre_attention_inputs : Cert.Pre_attention_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_NormGlu [hNormGlu : Cert.NormGlu.Facts] : Prop :=
  ∀ (m : (ℓ : Loc Cert.NormGlu.nD Cert.NormGlu.τ Cert.NormGlu.sig) → Buf (Elt Bits) ℓ) (g : Dev Cert.NormGlu.nD → PrngReg), Pre_NormGlu m →
    θ_run (Cert.NormGlu.defs (F := Bits)) (onTc (τ := Cert.NormGlu.τ) (Cert.NormGlu.main (F := Bits))) ⟨m, fun _ => 0, g⟩ (fun r => (∀ c : Dev Cert.NormGlu.nD,
      r.2.mem ((c.tc : Thread Cert.NormGlu.nD Cert.NormGlu.τ).loc Cert.NormGlu.main_arg0) = m ((c.tc : Thread Cert.NormGlu.nD Cert.NormGlu.τ).loc Cert.NormGlu.main_arg0)
      ∧ r.2.mem ((c.tc : Thread Cert.NormGlu.nD Cert.NormGlu.τ).loc Cert.NormGlu.main_arg1) = m ((c.tc : Thread Cert.NormGlu.nD Cert.NormGlu.τ).loc Cert.NormGlu.main_arg1)
      ∧ r.2.mem ((c.tc : Thread Cert.NormGlu.nD Cert.NormGlu.τ).loc Cert.NormGlu.main_arg2) = m ((c.tc : Thread Cert.NormGlu.nD Cert.NormGlu.τ).loc Cert.NormGlu.main_arg2))
      ∧ r.2.sem = fun _ => 0)

def quiescent_NormGluIdeal [hNormGluIdeal : Cert.NormGluIdeal.Facts] : Prop :=
  ∀ (m : (ℓ : Loc Cert.NormGluIdeal.nD Cert.NormGluIdeal.τ Cert.NormGluIdeal.sig) → Buf (Elt Ideal) ℓ) (g : Dev Cert.NormGluIdeal.nD → PrngReg), Pre_NormGluIdeal m →
    θ_run (Cert.NormGluIdeal.defs (F := Ideal)) (onTc (τ := Cert.NormGluIdeal.τ) (Cert.NormGluIdeal.main (F := Ideal))) ⟨m, fun _ => 0, g⟩ (fun r => (∀ c : Dev Cert.NormGluIdeal.nD,
      r.2.mem ((c.tc : Thread Cert.NormGluIdeal.nD Cert.NormGluIdeal.τ).loc Cert.NormGluIdeal.main_arg0) = m ((c.tc : Thread Cert.NormGluIdeal.nD Cert.NormGluIdeal.τ).loc Cert.NormGluIdeal.main_arg0)
      ∧ r.2.mem ((c.tc : Thread Cert.NormGluIdeal.nD Cert.NormGluIdeal.τ).loc Cert.NormGluIdeal.main_arg1) = m ((c.tc : Thread Cert.NormGluIdeal.nD Cert.NormGluIdeal.τ).loc Cert.NormGluIdeal.main_arg1)
      ∧ r.2.mem ((c.tc : Thread Cert.NormGluIdeal.nD Cert.NormGluIdeal.τ).loc Cert.NormGluIdeal.main_arg2) = m ((c.tc : Thread Cert.NormGluIdeal.nD Cert.NormGluIdeal.τ).loc Cert.NormGluIdeal.main_arg2))
      ∧ r.2.sem = fun _ => 0)

def quiescent_NormGluRefIdeal [hNormGluRefIdeal : Cert.NormGluRefIdeal.Facts] : Prop :=
  ∀ (m : (ℓ : Loc Cert.NormGluRefIdeal.nD Cert.NormGluRefIdeal.τ Cert.NormGluRefIdeal.sig) → Buf (Elt Ideal) ℓ) (g : Dev Cert.NormGluRefIdeal.nD → PrngReg), Pre_NormGluRefIdeal m →
    θ_run (Cert.NormGluRefIdeal.defs (F := Ideal)) (onTc (τ := Cert.NormGluRefIdeal.τ) (Cert.NormGluRefIdeal.main (F := Ideal))) ⟨m, fun _ => 0, g⟩ (fun r => (∀ c : Dev Cert.NormGluRefIdeal.nD,
      r.2.mem ((c.tc : Thread Cert.NormGluRefIdeal.nD Cert.NormGluRefIdeal.τ).loc Cert.NormGluRefIdeal.main_arg0) = m ((c.tc : Thread Cert.NormGluRefIdeal.nD Cert.NormGluRefIdeal.τ).loc Cert.NormGluRefIdeal.main_arg0)
      ∧ r.2.mem ((c.tc : Thread Cert.NormGluRefIdeal.nD Cert.NormGluRefIdeal.τ).loc Cert.NormGluRefIdeal.main_arg1) = m ((c.tc : Thread Cert.NormGluRefIdeal.nD Cert.NormGluRefIdeal.τ).loc Cert.NormGluRefIdeal.main_arg1)
      ∧ r.2.mem ((c.tc : Thread Cert.NormGluRefIdeal.nD Cert.NormGluRefIdeal.τ).loc Cert.NormGluRefIdeal.main_arg2) = m ((c.tc : Thread Cert.NormGluRefIdeal.nD Cert.NormGluRefIdeal.τ).loc Cert.NormGluRefIdeal.main_arg2))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1)
      ∧ r.2.mem ((c.tc : Thread Cert.QueriesRefIdeal.nD Cert.QueriesRefIdeal.τ).loc Cert.QueriesRefIdeal.main_arg2) = m ((c.tc : Thread Cert.QueriesRefIdeal.nD Cert.QueriesRefIdeal.τ).loc Cert.QueriesRefIdeal.main_arg2))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2))
      ∧ r.2.sem = fun _ => 0)

def preserves_Kernel_KernelIdeal : Prop :=
  True

def algebraic_KernelIdeal_ReferenceIdeal_pre_attention_inputs [hKernelIdeal : Cert.KernelIdeal.Facts] [hReferenceIdeal : Cert.ReferenceIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_v31) = v5 c
          ∧ r.2.mem ((c.tc : Thread Cert.ReferenceIdeal.nD Cert.ReferenceIdeal.τ).loc Cert.ReferenceIdeal.main_v32) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v5) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v9) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v36) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v7) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_NormGlu_NormGluIdeal : Prop :=
  True

def algebraic_NormGluIdeal_NormGluRefIdeal [hNormGluIdeal : Cert.NormGluIdeal.Facts] [hNormGluRefIdeal : Cert.NormGluRefIdeal.Facts] : Prop :=
  ∀ (m : (ℓ : Loc Cert.NormGluIdeal.nD Cert.NormGluIdeal.τ Cert.NormGluIdeal.sig) → Buf (Elt Ideal) ℓ) (g : Dev Cert.NormGluIdeal.nD → PrngReg)
    (m' : (ℓ : Loc Cert.NormGluRefIdeal.nD Cert.NormGluRefIdeal.τ Cert.NormGluRefIdeal.sig) → Buf (Elt Ideal) ℓ) (g' : Dev Cert.NormGluRefIdeal.nD → PrngReg), Pre_NormGluIdeal m →
    (∀ c : Dev Cert.NormGluIdeal.nD,
      m' ((c.tc : Thread Cert.NormGluRefIdeal.nD Cert.NormGluRefIdeal.τ).loc Cert.NormGluRefIdeal.main_arg0) = m ((c.tc : Thread Cert.NormGluIdeal.nD Cert.NormGluIdeal.τ).loc Cert.NormGluIdeal.main_arg0)
      ∧ m' ((c.tc : Thread Cert.NormGluRefIdeal.nD Cert.NormGluRefIdeal.τ).loc Cert.NormGluRefIdeal.main_arg1) = m ((c.tc : Thread Cert.NormGluIdeal.nD Cert.NormGluIdeal.τ).loc Cert.NormGluIdeal.main_arg1)
      ∧ m' ((c.tc : Thread Cert.NormGluRefIdeal.nD Cert.NormGluRefIdeal.τ).loc Cert.NormGluRefIdeal.main_arg2) = m ((c.tc : Thread Cert.NormGluIdeal.nD Cert.NormGluIdeal.τ).loc Cert.NormGluIdeal.main_arg2)) →
    ∃ (v0 : (c : Dev Cert.NormGluIdeal.nD) → Buf (Elt Ideal) ((c.tc : Thread Cert.NormGluIdeal.nD Cert.NormGluIdeal.τ).loc Cert.NormGluIdeal.main_v1_0)) (v1 : (c : Dev Cert.NormGluIdeal.nD) → Buf (Elt Ideal) ((c.tc : Thread Cert.NormGluIdeal.nD Cert.NormGluIdeal.τ).loc Cert.NormGluIdeal.main_v1_1)) (v2 : (c : Dev Cert.NormGluIdeal.nD) → Buf (Elt Ideal) ((c.tc : Thread Cert.NormGluIdeal.nD Cert.NormGluIdeal.τ).loc Cert.NormGluIdeal.main_v1_2)),
      θ_run (Cert.NormGluIdeal.defs (F := Ideal)) (onTc (τ := Cert.NormGluIdeal.τ) (Cert.NormGluIdeal.main (F := Ideal))) ⟨m, fun _ => 0, g⟩ (fun r => ∀ c : Dev Cert.NormGluIdeal.nD,
          r.2.mem ((c.tc : Thread Cert.NormGluIdeal.nD Cert.NormGluIdeal.τ).loc Cert.NormGluIdeal.main_v1_0) = v0 c
          ∧ r.2.mem ((c.tc : Thread Cert.NormGluIdeal.nD Cert.NormGluIdeal.τ).loc Cert.NormGluIdeal.main_v1_1) = v1 c
          ∧ r.2.mem ((c.tc : Thread Cert.NormGluIdeal.nD Cert.NormGluIdeal.τ).loc Cert.NormGluIdeal.main_v1_2) = v2 c
          ∧ r.2.mem ((c.tc : Thread Cert.NormGluIdeal.nD Cert.NormGluIdeal.τ).loc Cert.NormGluIdeal.main_arg0) = m ((c.tc : Thread Cert.NormGluIdeal.nD Cert.NormGluIdeal.τ).loc Cert.NormGluIdeal.main_arg0)
          ∧ r.2.mem ((c.tc : Thread Cert.NormGluIdeal.nD Cert.NormGluIdeal.τ).loc Cert.NormGluIdeal.main_arg1) = m ((c.tc : Thread Cert.NormGluIdeal.nD Cert.NormGluIdeal.τ).loc Cert.NormGluIdeal.main_arg1)
          ∧ r.2.mem ((c.tc : Thread Cert.NormGluIdeal.nD Cert.NormGluIdeal.τ).loc Cert.NormGluIdeal.main_arg2) = m ((c.tc : Thread Cert.NormGluIdeal.nD Cert.NormGluIdeal.τ).loc Cert.NormGluIdeal.main_arg2))
      ∧ θ_run (Cert.NormGluRefIdeal.defs (F := Ideal)) (onTc (τ := Cert.NormGluRefIdeal.τ) (Cert.NormGluRefIdeal.main (F := Ideal))) ⟨m', fun _ => 0, g'⟩ (fun r => ∀ c : Dev Cert.NormGluRefIdeal.nD,
          r.2.mem ((c.tc : Thread Cert.NormGluRefIdeal.nD Cert.NormGluRefIdeal.τ).loc Cert.NormGluRefIdeal.main_v22) = v0 c
          ∧ r.2.mem ((c.tc : Thread Cert.NormGluRefIdeal.nD Cert.NormGluRefIdeal.τ).loc Cert.NormGluRefIdeal.main_v25) = v1 c
          ∧ r.2.mem ((c.tc : Thread Cert.NormGluRefIdeal.nD Cert.NormGluRefIdeal.τ).loc Cert.NormGluRefIdeal.main_v26) = v2 c
          ∧ r.2.mem ((c.tc : Thread Cert.NormGluRefIdeal.nD Cert.NormGluRefIdeal.τ).loc Cert.NormGluRefIdeal.main_arg0) = m' ((c.tc : Thread Cert.NormGluRefIdeal.nD Cert.NormGluRefIdeal.τ).loc Cert.NormGluRefIdeal.main_arg0)
          ∧ r.2.mem ((c.tc : Thread Cert.NormGluRefIdeal.nD Cert.NormGluRefIdeal.τ).loc Cert.NormGluRefIdeal.main_arg1) = m' ((c.tc : Thread Cert.NormGluRefIdeal.nD Cert.NormGluRefIdeal.τ).loc Cert.NormGluRefIdeal.main_arg1)
          ∧ r.2.mem ((c.tc : Thread Cert.NormGluRefIdeal.nD Cert.NormGluRefIdeal.τ).loc Cert.NormGluRefIdeal.main_arg2) = m' ((c.tc : Thread Cert.NormGluRefIdeal.nD Cert.NormGluRefIdeal.τ).loc Cert.NormGluRefIdeal.main_arg2))

def preserves_Queries_QueriesIdeal : Prop :=
  IdealRules.named_const.Statement Cert.QueriesIdeal.κ "q_scale" .f32 0x3E0293EE#32 (((Real.sqrt 128)⁻¹ * (Real.log 2)⁻¹ : ℝ) : EReal)

def preserves_Keys_KeysIdeal : Prop :=
  True

def Claim : Prop :=
  ∃ (hKernel : Cert.Kernel.Facts) (hKernelIdeal : Cert.KernelIdeal.Facts) (hReferenceIdeal : Cert.ReferenceIdeal.Facts) (hFfnDown : Cert.FfnDown.Facts) (hFfnDownIdeal : Cert.FfnDownIdeal.Facts) (hFfnDownRefIdeal : Cert.FfnDownRefIdeal.Facts) (hFfnUp : Cert.FfnUp.Facts) (hFfnUpIdeal : Cert.FfnUpIdeal.Facts) (hFfnUpRefIdeal : Cert.FfnUpRefIdeal.Facts) (hGates : Cert.Gates.Facts) (hGatesIdeal : Cert.GatesIdeal.Facts) (hGatesRefIdeal : Cert.GatesRefIdeal.Facts) (hPle : Cert.Ple.Facts) (hPleIdeal : Cert.PleIdeal.Facts) (hPleRefIdeal : Cert.PleRefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hNormGlu : Cert.NormGlu.Facts) (hNormGluIdeal : Cert.NormGluIdeal.Facts) (hNormGluRefIdeal : Cert.NormGluRefIdeal.Facts) (hQueries : Cert.Queries.Facts) (hQueriesIdeal : Cert.QueriesIdeal.Facts) (hQueriesRefIdeal : Cert.QueriesRefIdeal.Facts) (hKeys : Cert.Keys.Facts) (hKeysIdeal : Cert.KeysIdeal.Facts) (hKeysRefIdeal : Cert.KeysRefIdeal.Facts) (hPre_attention_inputs : Cert.Pre_attention_inputs.Facts),
    quiescent_Kernel (hKernel := hKernel)
    ∧ quiescent_KernelIdeal (hKernelIdeal := hKernelIdeal)
    ∧ quiescent_KernelIdeal_pre_attention_inputs (hKernelIdeal := hKernelIdeal) (hPre_attention_inputs := hPre_attention_inputs)
    ∧ quiescent_ReferenceIdeal (hReferenceIdeal := hReferenceIdeal)
    ∧ quiescent_ReferenceIdeal_pre_attention_inputs (hReferenceIdeal := hReferenceIdeal) (hPre_attention_inputs := hPre_attention_inputs)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Gates (hGates := hGates)
    ∧ quiescent_GatesIdeal (hGatesIdeal := hGatesIdeal)
    ∧ quiescent_GatesRefIdeal (hGatesRefIdeal := hGatesRefIdeal)
    ∧ quiescent_Ple (hPle := hPle)
    ∧ quiescent_PleIdeal (hPleIdeal := hPleIdeal)
    ∧ quiescent_PleRefIdeal (hPleRefIdeal := hPleRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_NormGlu (hNormGlu := hNormGlu)
    ∧ quiescent_NormGluIdeal (hNormGluIdeal := hNormGluIdeal)
    ∧ quiescent_NormGluRefIdeal (hNormGluRefIdeal := hNormGluRefIdeal)
    ∧ quiescent_Queries (hQueries := hQueries)
    ∧ quiescent_QueriesIdeal (hQueriesIdeal := hQueriesIdeal)
    ∧ quiescent_QueriesRefIdeal (hQueriesRefIdeal := hQueriesRefIdeal)
    ∧ quiescent_Keys (hKeys := hKeys)
    ∧ quiescent_KeysIdeal (hKeysIdeal := hKeysIdeal)
    ∧ quiescent_KeysRefIdeal (hKeysRefIdeal := hKeysRefIdeal)
    ∧ preserves_Kernel_KernelIdeal
    ∧ algebraic_KernelIdeal_ReferenceIdeal_pre_attention_inputs (hKernelIdeal := hKernelIdeal) (hReferenceIdeal := hReferenceIdeal) (hPre_attention_inputs := hPre_attention_inputs)
    ∧ preserves_FfnDown_FfnDownIdeal
    ∧ algebraic_FfnDownIdeal_FfnDownRefIdeal (hFfnDownIdeal := hFfnDownIdeal) (hFfnDownRefIdeal := hFfnDownRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Gates_GatesIdeal
    ∧ algebraic_GatesIdeal_GatesRefIdeal (hGatesIdeal := hGatesIdeal) (hGatesRefIdeal := hGatesRefIdeal)
    ∧ preserves_Ple_PleIdeal
    ∧ algebraic_PleIdeal_PleRefIdeal (hPleIdeal := hPleIdeal) (hPleRefIdeal := hPleRefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_NormGlu_NormGluIdeal
    ∧ algebraic_NormGluIdeal_NormGluRefIdeal (hNormGluIdeal := hNormGluIdeal) (hNormGluRefIdeal := hNormGluRefIdeal)
    ∧ preserves_Queries_QueriesIdeal
    ∧ preserves_Keys_KeysIdeal
-- ==== Pre_attention_inputs.lean ====
abbrev S1x1 : Shape := ⟨2, ![1, 1]⟩
abbrev S2048x8192 : Shape := ⟨2, ![2048, 8192]⟩
abbrev S8192x1024 : Shape := ⟨2, ![8192, 1024]⟩
abbrev S576x8192 : Shape := ⟨2, ![576, 8192]⟩
abbrev S8192x2048 : Shape := ⟨2, ![8192, 2048]⟩
abbrev S2048x2048 : Shape := ⟨2, ![2048, 2048]⟩
abbrev S1024x2048 : Shape := ⟨2, ![1024, 2048]⟩
abbrev S_ : Shape := ⟨0, ![]⟩
abbrev S8192x4x256 : Shape := ⟨3, ![8192, 4, 256]⟩
abbrev S8192x4x1 : Shape := ⟨3, ![8192, 4, 1]⟩
abbrev S8192x4 : Shape := ⟨2, ![8192, 4]⟩

class Facts : Prop where
  bcast_S_S1x1 : S_.BroadcastsInDim S1x1 (![] : Fin 0 → Fin S1x1.rank)
  bitsLt_bf16_f32 : FTy.bits .bf16 < FTy.bits .f32
  bcast_S_S2048x8192 : S_.BroadcastsInDim S2048x8192 (![] : Fin 0 → Fin S2048x8192.rank)
  bcast_S_S8192x1024 : S_.BroadcastsInDim S8192x1024 (![] : Fin 0 → Fin S8192x1024.rank)
  shapeCasts_S8192x1024_S8192x4x256 : S8192x1024.ShapeCasts S8192x4x256
  slices_S8192x4x256_S8192x4x1_0_0_128 : S8192x4x256.Slices ![0, 0, 128] S8192x4x1
  shapeCasts_S8192x4x1_S8192x4 : S8192x4x1.ShapeCasts S8192x4
  bcast_S_S8192x4 : S_.BroadcastsInDim S8192x4 (![] : Fin 0 → Fin S8192x4.rank)

variable [Facts]

def fn {F : FTy → Type} [FloatOps F] (main_arg0 : FVec F S1x1 .f32) (main_arg1 : FVec F S2048x8192 .bf16) (main_arg2 : FVec F S8192x1024 .bf16) (main_arg3 : FVec F S576x8192 .bf16) (main_arg4 : FVec F S8192x2048 .f32) (main_arg5 : FVec F S2048x2048 .f32) (main_arg6 : FVec F S2048x2048 .f32) (main_arg7 : FVec F S2048x2048 .f32) (main_arg8 : FVec F S2048x8192 .f32) (main_arg9 : FVec F S1024x2048 .f32) : IVec S1x1 1 × IVec S2048x8192 1 × IVec S8192x1024 1 × IVec S8192x4 1 :=
  let main_v0 : FVec F S1x1 .f32 := Host.absf main_arg0
  let main_cst : FVec F S_ .f32 := constant S_ .f32 0x7F800000#32
  let main_v1 : FVec F S1x1 .f32 := broadcastInDim S1x1 ![] bcast_S_S1x1 main_cst
  let main_v2 : IVec S1x1 1 := cmpf .olt main_v0 main_v1
  let main_v3 : FVec F S2048x8192 .f32 := (extf .f32 · bitsLt_bf16_f32) main_arg1
  let main_v4 : FVec F S2048x8192 .f32 := Host.absf main_v3
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_v7 : FVec F S8192x1024 .f32 := (extf .f32 · bitsLt_bf16_f32) main_arg2
  let main_v8 : FVec F S8192x1024 .f32 := Host.absf main_v7
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := (extf .f32 · bitsLt_bf16_f32) main_arg2
  let main_v12 : FVec F S8192x4x256 .f32 := shapeCast S8192x4x256 main_v11 shapeCasts_S8192x1024_S8192x4x256
  let main_v13 : FVec F S8192x4x1 .f32 := (extractStridedSlice S8192x4x1 ![0, 0, 128] · slices_S8192x4x256_S8192x4x1_0_0_128) main_v12
  let main_v14 : FVec F S8192x4 .f32 := shapeCast S8192x4 main_v13 shapeCasts_S8192x4x1_S8192x4
  let main_cst_2 : FVec F S_ .f32 := constant S_ .f32 0x3F800000#32
  let main_v15 : FVec F S8192x4 .f32 := broadcastInDim S8192x4 ![] bcast_S_S8192x4 main_cst_2
  let main_v16 : IVec S8192x4 1 := cmpf .oeq main_v14 main_v15
  (main_v2, main_v6, main_v10, main_v16)
-- ==== Kernel.lean ====
abbrev S1x1 : Shape := ⟨2, ![1, 1]⟩
abbrev S2048x8192 : Shape := ⟨2, ![2048, 8192]⟩
abbrev S8192x1024 : Shape := ⟨2, ![8192, 1024]⟩
abbrev S576x8192 : Shape := ⟨2, ![576, 8192]⟩
abbrev S8192x2048 : Shape := ⟨2, ![8192, 2048]⟩
abbrev S2048x2048 : Shape := ⟨2, ![2048, 2048]⟩
abbrev S1024x2048 : Shape := ⟨2, ![1024, 2048]⟩
abbrev S512x1024 : Shape := ⟨2, ![512, 1024]⟩
abbrev S8192x256 : Shape := ⟨2, ![8192, 256]⟩
abbrev S144x8192 : Shape := ⟨2, ![144, 8192]⟩
abbrev S256x2048 : Shape := ⟨2, ![256, 2048]⟩
abbrev S64x2048 : Shape := ⟨2, ![64, 2048]⟩
abbrev S64x8192 : Shape := ⟨2, ![64, 8192]⟩
abbrev S32x2048 : Shape := ⟨2, ![32, 2048]⟩
abbrev S1024x512 : Shape := ⟨2, ![1024, 512]⟩
abbrev S256x4096 : Shape := ⟨2, ![256, 4096]⟩
abbrev S128x4096 : Shape := ⟨2, ![128, 4096]⟩
abbrev S512x4096 : Shape := ⟨2, ![512, 4096]⟩
abbrev S128x1024 : Shape := ⟨2, ![128, 1024]⟩
abbrev S1x4096 : Shape := ⟨2, ![1, 4096]⟩
abbrev S512x256 : Shape := ⟨2, ![512, 256]⟩
abbrev S4096 : Shape := ⟨1, ![4096]⟩
abbrev S128x512 : Shape := ⟨2, ![128, 512]⟩
abbrev S1024x128 : Shape := ⟨2, ![1024, 128]⟩

abbrev nBuf : Space → Nat
  | .hbm => 17
  | .vmem => 36
  | .smem => 1
  | _ => 0

abbrev bufTy : (tb : Table) → Fin (tcTables nBuf tb) → BufTy
  | .hbm, ⟨0, _⟩ => ⟨S1x1, .f32⟩
  | .hbm, ⟨1, _⟩ => ⟨S2048x8192, .bf16⟩
  | .hbm, ⟨2, _⟩ => ⟨S8192x1024, .bf16⟩
  | .hbm, ⟨3, _⟩ => ⟨S576x8192, .bf16⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x8192, .f32⟩
  | .hbm, ⟨9, _⟩ => ⟨S1024x2048, .f32⟩
  | .hbm, ⟨10, _⟩ => ⟨S8192x2048, .bf16⟩
  | .hbm, ⟨11, _⟩ => ⟨S8192x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x8192, .bf16⟩
  | .hbm, ⟨16, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S8192x256, .bf16⟩
  | .local _ .vmem, ⟨3, _⟩ => ⟨S8192x256, .bf16⟩
  | .local _ .vmem, ⟨4, _⟩ => ⟨S144x8192, .bf16⟩
  | .local _ .vmem, ⟨5, _⟩ => ⟨S144x8192, .bf16⟩
  | .local _ .vmem, ⟨6, _⟩ => ⟨S256x2048, .f32⟩
  | .local _ .vmem, ⟨7, _⟩ => ⟨S256x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x8192, .f32⟩
  | .local _ .vmem, ⟨15, _⟩ => ⟨S64x8192, .f32⟩
  | .local _ .vmem, ⟨16, _⟩ => ⟨S32x2048, .f32⟩
  | .local _ .vmem, ⟨17, _⟩ => ⟨S32x2048, .f32⟩
  | .local _ .vmem, ⟨18, _⟩ => ⟨S1024x512, .bf16⟩
  | .local _ .vmem, ⟨19, _⟩ => ⟨S1024x512, .bf16⟩
  | .local _ .vmem, ⟨20, _⟩ => ⟨S256x2048, .bf16⟩
  | .local _ .vmem, ⟨21, _⟩ => ⟨S256x2048, .bf16⟩
  | .local _ .vmem, ⟨22, _⟩ => ⟨S64x2048, .bf16⟩
  | .local _ .vmem, ⟨23, _⟩ => ⟨S64x2048, .bf16⟩
  | .local _ .vmem, ⟨24, _⟩ => ⟨S64x2048, .bf16⟩
  | .local _ .vmem, ⟨25, _⟩ => ⟨S64x2048, .bf16⟩
  | .local _ .vmem, ⟨26, _⟩ => ⟨S64x2048, .bf16⟩
  | .local _ .vmem, ⟨27, _⟩ => ⟨S64x2048, .bf16⟩
  | .local _ .vmem, ⟨28, _⟩ => ⟨S64x8192, .bf16⟩
  | .local _ .vmem, ⟨29, _⟩ => ⟨S64x8192, .bf16⟩
  | .local _ .vmem, ⟨30, _⟩ => ⟨S32x2048, .bf16⟩
  | .local _ .vmem, ⟨31, _⟩ => ⟨S32x2048, .bf16⟩
  | .local _ .vmem, ⟨32, _⟩ => ⟨S256x4096, .bf16⟩
  | .local _ .vmem, ⟨33, _⟩ => ⟨S128x4096, .f32⟩
  | .local _ .vmem, ⟨34, _⟩ => ⟨S512x4096, .bf16⟩
  | .local _ .vmem, ⟨35, _⟩ => ⟨S512x4096, .bf16⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_50 : BitVec 32 := 0#32
  let c3_i32 : BitVec 32 := 3#32
  let v62 : BitVec 32 := Scalar.addi c0_i32_50 c3_i32
  let c1_i32 : BitVec 32 := 1#32
  ⟨c0_i32_50, v62, c1_i32⟩
def k0_mult1 (k0_t1 : Fin k0_t1_loop.trips) : BitVec 32 :=
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let c0_i32_118 : BitVec 32 := 0#32
  let v149 : BitVec 32 := Scalar.addi v148 c0_i32_118
  let c1_i32_119 : BitVec 32 := 1#32
  let v150 : BitVec 32 := Scalar.addi v149 c1_i32_119
  let c512_i32 : BitVec 32 := 512#32
  let v151 : BitVec 32 := Scalar.muli v150 c512_i32
  v151
def k0_off1 (k0_t1 : Fin k0_t1_loop.trips) (c0_i32_118 : BitVec 32) : Fin 2 → Nat :=
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let v149 : BitVec 32 := Scalar.addi v148 c0_i32_118
  let c1_i32_119 : BitVec 32 := 1#32
  let v150 : BitVec 32 := Scalar.addi v149 c1_i32_119
  let c512_i32 : BitVec 32 := 512#32
  let v151 : BitVec 32 := Scalar.muli v150 c512_i32
  let v152 : BitVec 32 := v151
  let v153 : Index := Scalar.indexCast v152
  let c0_120 : Index := 0#32
  ![v153.toNat, 0]
def k0_mult2 (k0_t1 : Fin k0_t1_loop.trips) : BitVec 32 :=
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let c0_i32_127 : BitVec 32 := 0#32
  let v165 : BitVec 32 := Scalar.addi v148 c0_i32_127
  let c512_i32_128 : BitVec 32 := 512#32
  let v166 : BitVec 32 := Scalar.muli v165 c512_i32_128
  v166
def k0_off2 (k0_t1 : Fin k0_t1_loop.trips) (c0_i32_127 : BitVec 32) : Fin 2 → Nat :=
  let c0_129 : Index := 0#32
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let v165 : BitVec 32 := Scalar.addi v148 c0_i32_127
  let c512_i32_128 : BitVec 32 := 512#32
  let v166 : BitVec 32 := Scalar.muli v165 c512_i32_128
  let v167 : BitVec 32 := v166
  let v168 : Index := Scalar.indexCast v167
  ![0, v168.toNat]
def k0_mult3 (k0_t1 : Fin k0_t1_loop.trips) : BitVec 32 :=
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let c1_i32_137 : BitVec 32 := 1#32
  let v177 : BitVec 32 := Scalar.addi v148 c1_i32_137
  let c1_i32_138 : BitVec 32 := 1#32
  let v178 : BitVec 32 := Scalar.addi v177 c1_i32_138
  let c512_i32_139 : BitVec 32 := 512#32
  let v179 : BitVec 32 := Scalar.muli v178 c512_i32_139
  v179
def k0_mult4 (k0_t1 : Fin k0_t1_loop.trips) : BitVec 32 :=
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let c1_i32_147 : BitVec 32 := 1#32
  let v193 : BitVec 32 := Scalar.addi v148 c1_i32_147
  let c512_i32_148 : BitVec 32 := 512#32
  let v194 : BitVec 32 := Scalar.muli v193 c512_i32_148
  v194
def k0_mult5 (k0_t1 : Fin k0_t1_loop.trips) : BitVec 32 :=
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let c2_i32 : BitVec 32 := 2#32
  let v205 : BitVec 32 := Scalar.addi v148 c2_i32
  let c1_i32_157 : BitVec 32 := 1#32
  let v206 : BitVec 32 := Scalar.addi v205 c1_i32_157
  let c512_i32_158 : BitVec 32 := 512#32
  let v207 : BitVec 32 := Scalar.muli v206 c512_i32_158
  v207
def k0_mult6 (k0_t1 : Fin k0_t1_loop.trips) : BitVec 32 :=
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let c2_i32_166 : BitVec 32 := 2#32
  let v221 : BitVec 32 := Scalar.addi v148 c2_i32_166
  let c512_i32_167 : BitVec 32 := 512#32
  let v222 : BitVec 32 := Scalar.muli v221 c512_i32_167
  v222
def k0_mult7 (k0_t1 : Fin k0_t1_loop.trips) : BitVec 32 :=
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let c3_i32_176 : BitVec 32 := 3#32
  let v233 : BitVec 32 := Scalar.addi v148 c3_i32_176
  let c1_i32_177 : BitVec 32 := 1#32
  let v234 : BitVec 32 := Scalar.addi v233 c1_i32_177
  let c512_i32_178 : BitVec 32 := 512#32
  let v235 : BitVec 32 := Scalar.muli v234 c512_i32_178
  v235
def k0_mult8 (k0_t1 : Fin k0_t1_loop.trips) : BitVec 32 :=
  let c4_i32 : BitVec 32 := 4#32
  let c0_i32_50 : BitVec 32 := 0#32
  let c1_i32 : BitVec 32 := 1#32
  let arg23 : BitVec 32 := Scf.iv c0_i32_50 c1_i32 k0_t1
  let v148 : BitVec 32 := Scalar.muli c4_i32 arg23
  let c3_i32_186 : BitVec 32 := 3#32
  let v249 : BitVec 32 := Scalar.addi v148 c3_i32_186
  let c512_i32_187 : BitVec 32 := 512#32
  let v250 : BitVec 32 := Scalar.muli v249 c512_i32_187
  v250
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S144x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x8192 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S1x1 : Shape := ⟨2, ![1, 1]⟩
abbrev S2048x8192 : Shape := ⟨2, ![2048, 8192]⟩
abbrev S8192x1024 : Shape := ⟨2, ![8192, 1024]⟩
abbrev S576x8192 : Shape := ⟨2, ![576, 8192]⟩
abbrev S8192x2048 : Shape := ⟨2, ![8192, 2048]⟩
abbrev S2048x2048 : Shape := ⟨2, ![2048, 2048]⟩
abbrev S1024x2048 : Shape := ⟨2, ![1024, 2048]⟩
abbrev S4x4x128x8192 : Shape := ⟨4, ![4, 4, 128, 8192]⟩
abbrev S8192x4x256 : Shape := ⟨3, ![8192, 4, 256]⟩
abbrev S8192x4x128 : Shape := ⟨3, ![8192, 4, 128]⟩
abbrev S4x144x8192 : Shape := ⟨3, ![4, 144, 8192]⟩
abbrev S4x128x8192 : Shape := ⟨3, ![4, 128, 8192]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S8192x4x4x128 : Shape := ⟨4, ![8192, 4, 4, 128]⟩

abbrev nBuf : Space → Nat
  | .hbm => 47
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S2048x8192, .bf16⟩
  | .hbm, ⟨2, _⟩ => ⟨S8192x1024, .bf16⟩
  | .hbm, ⟨3, _⟩ => ⟨S576x8192, .bf16⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x8192, .f32⟩
  | .hbm, ⟨9, _⟩ => ⟨S1024x2048, .f32⟩
  | .hbm, ⟨10, _⟩ => ⟨S2048x8192, .f32⟩
  | .hbm, ⟨11, _⟩ => ⟨S4x4x128x8192, .f32⟩
  | .hbm, ⟨12, _⟩ => ⟨S8192x1024, .f32⟩
  | .hbm, ⟨13, _⟩ => ⟨S8192x4x256, .f32⟩
  | .hbm, ⟨14, _⟩ => ⟨S8192x4x128, .f32⟩
  | .hbm, ⟨15, _⟩ => ⟨S576x8192, .f32⟩
  | .hbm, ⟨16, _⟩ => ⟨S4x144x8192, .f32⟩
  | .hbm, ⟨17, _⟩ => ⟨S4x128x8192, .f32⟩
  | .hbm, ⟨18, _⟩ => ⟨S4x4x8192x8192, .f32⟩
  | .hbm, ⟨19, _⟩ => ⟨S_, .f32⟩
  | .hbm, ⟨20, _⟩ => ⟨S_, .f32⟩
  | .hbm, ⟨21, _⟩ => ⟨S4x4x8192x8192, .f32⟩
  | .hbm, ⟨22, _⟩ => ⟨S4x4x8192x8192, .f32⟩
  | .hbm, ⟨23, _⟩ => ⟨S_, .f32⟩
  | .hbm, ⟨24, _⟩ => ⟨S4x4x8192, .f32⟩
  | .hbm, ⟨25, _⟩ => ⟨S_, .f32⟩
  | .hbm, ⟨26, _⟩ => ⟨S4x4x8192, .f32⟩
  | .hbm, ⟨27, _⟩ => ⟨S4x4x8192, .f32⟩
  | .hbm, ⟨28, _⟩ => ⟨S4x4x8192x1, .f32⟩
  | .hbm, ⟨29, _⟩ => ⟨S4x4x8192x8192, .f32⟩
  | .hbm, ⟨30, _⟩ => ⟨S4x4x8192x8192, .f32⟩
  | .hbm, ⟨31, _⟩ => ⟨S4x4x8192x8192, .f32⟩
  | .hbm, ⟨32, _⟩ => ⟨S_, .f32⟩
  | .hbm, ⟨33, _⟩ => ⟨S4x4x8192, .f32⟩
  | .hbm, ⟨34, _⟩ => ⟨S4x4x8192x1, .f32⟩
  | .hbm, ⟨35, _⟩ => ⟨S4x4x8192x8192, .f32⟩
  | .hbm, ⟨36, _⟩ => ⟨S4x4x8192x8192, .f32⟩
  | .hbm, ⟨37, _⟩ => ⟨S4x128x4x8192, .f32⟩
  | .hbm, ⟨38, _⟩ => ⟨S8192x4x4x128, .f32⟩
  | .hbm, ⟨39, _⟩ => ⟨S8192x2048, .f32⟩
  | .hbm, ⟨40, _⟩ => ⟨S8192x2048, .bf16⟩
  | .hbm, ⟨41, _⟩ => ⟨S8192x2048, .bf16⟩
  | .hbm, ⟨42, _⟩ => ⟨S2048x2048, .bf16⟩
  | .hbm, ⟨43, _⟩ => ⟨S2048x2048, .bf16⟩
  | .hbm, ⟨44, _⟩ => ⟨S2048x2048, .bf16⟩
  | .hbm, ⟨45, _⟩ => ⟨S2048x8192, .bf16⟩
  | .hbm, ⟨46, _⟩ => ⟨S1024x2048, .bf16⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== FfnDown.lean ====
abbrev S8192x8192 : Shape := ⟨2, ![8192, 8192]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x8192 : Shape := ⟨2, ![8192, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S8192x2048 : Shape := ⟨2, ![8192, 2048]⟩
abbrev S2048x8192 : Shape := ⟨2, ![2048, 8192]⟩
abbrev S8192x8192 : Shape := ⟨2, ![8192, 8192]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Gates.lean ====
abbrev S8192x2048 : Shape := ⟨2, ![8192, 2048]⟩
abbrev S2048x9216 : Shape := ⟨2, ![2048, 9216]⟩
abbrev S8192x4096 : Shape := ⟨2, ![8192, 4096]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8192x2048 : Shape := ⟨2, ![8192, 2048]⟩
abbrev S2048x9216 : Shape := ⟨2, ![2048, 9216]⟩
abbrev S8192x9216 : Shape := ⟨2, ![8192, 9216]⟩
abbrev S8192x4096 : Shape := ⟨2, ![8192, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S8192x2048, .f32⟩
  | .hbm, ⟨3, _⟩ => ⟨S8192x9216, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048, .f32⟩
  | .hbm, ⟨3, _⟩ => ⟨S2048x2048, .bf16⟩
  | .hbm, ⟨4, _⟩ => ⟨S256x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S8192x2048 : Shape := ⟨2, ![8192, 2048]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048, .f32⟩
  | .hbm, ⟨3, _⟩ => ⟨S2048x2048, .bf16⟩
  | .hbm, ⟨4, _⟩ => ⟨S256x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Merge.lean ====
abbrev S8192x2048 : Shape := ⟨2, ![8192, 2048]⟩
abbrev S2048x2048 : Shape := ⟨2, ![2048, 2048]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x4096, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeRefIdeal.lean ====
abbrev S8192x2048 : Shape := ⟨2, ![8192, 2048]⟩
abbrev S2048x2048 : Shape := ⟨2, ![2048, 2048]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x4096, .bf16⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== NormGlu.lean ====
abbrev S8192x2048 : Shape := ⟨2, ![8192, 2048]⟩
abbrev S2048 : Shape := ⟨1, ![2048]⟩
abbrev S2048x9216 : Shape := ⟨2, ![2048, 9216]⟩
abbrev S1x2048 : Shape := ⟨2, ![1, 2048]⟩
abbrev S8192x1024 : Shape := ⟨2, ![8192, 1024]⟩
abbrev S16x2048x512 : Shape := ⟨3, ![16, 2048, 512]⟩
abbrev S512x2048 : Shape := ⟨2, ![512, 2048]⟩
abbrev S2048x2048 : Shape := ⟨2, ![2048, 2048]⟩
abbrev S512x1024 : Shape := ⟨2, ![512, 1024]⟩
abbrev S1x2048x512 : Shape := ⟨3, ![1, 2048, 512]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S1x128x512 : Shape := ⟨3, ![1, 128, 512]⟩
abbrev S2048x1024 : Shape := ⟨2, ![2048, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x9216, .f32⟩
  | .hbm, ⟨3, _⟩ => ⟨S1x2048, .f32⟩
  | .hbm, ⟨4, _⟩ => ⟨S8192x1024, .f32⟩
  | .hbm, ⟨5, _⟩ => ⟨S8192x2048, .bf16⟩
  | .hbm, ⟨6, _⟩ => ⟨S16x2048x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .f32⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormGluRefIdeal.lean ====
abbrev S8192x2048 : Shape := ⟨2, ![8192, 2048]⟩
abbrev S2048 : Shape := ⟨1, ![2048]⟩
abbrev S2048x9216 : Shape := ⟨2, ![2048, 9216]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x9216 : Shape := ⟨2, ![8192, 9216]⟩
abbrev S8192x1024 : Shape := ⟨2, ![8192, 1024]⟩
abbrev S16x512x2048 : Shape := ⟨3, ![16, 512, 2048]⟩
abbrev S16x2048x512 : Shape := ⟨3, ![16, 2048, 512]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x9216, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x9216, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S16x512x2048, .f32⟩
  | .hbm, ⟨32, _⟩ => ⟨S16x2048x512, .f32⟩
  | .hbm, ⟨33, _⟩ => ⟨S8192x2048, .bf16⟩
  | .hbm, ⟨34, _⟩ => ⟨S16x2048x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Queries.lean ====
abbrev S2048x9216 : Shape := ⟨2, ![2048, 9216]⟩
abbrev S16x2048x512 : Shape := ⟨3, ![16, 2048, 512]⟩
abbrev S128 : Shape := ⟨1, ![128]⟩
abbrev S32 : Shape := ⟨1, ![32]⟩
abbrev S_ : Shape := ⟨0, ![]⟩
abbrev S32x1 : Shape := ⟨2, ![32, 1]⟩
abbrev S1x128 : Shape := ⟨2, ![1, 128]⟩
abbrev S32x128 : Shape := ⟨2, ![32, 128]⟩
abbrev S64 : Shape := ⟨1, ![64]⟩
abbrev S1x64 : Shape := ⟨2, ![1, 64]⟩
abbrev S32x64 : Shape := ⟨2, ![32, 64]⟩
abbrev S32x128x1 : Shape := ⟨3, ![32, 128, 1]⟩
abbrev S32x128x64 : Shape := ⟨3, ![32, 128, 64]⟩
abbrev S32x8192 : Shape := ⟨2, ![32, 8192]⟩
abbrev S32x1x64 : Shape := ⟨3, ![32, 1, 64]⟩
abbrev S128x8192 : Shape := ⟨2, ![128, 8192]⟩
abbrev S128x1 : Shape := ⟨2, ![128, 1]⟩
abbrev S2048x8192 : Shape := ⟨2, ![2048, 8192]⟩
abbrev S2048x1024 : Shape := ⟨2, ![2048, 1024]⟩
abbrev S2x2048x512 : Shape := ⟨3, ![2, 2048, 512]⟩
abbrev S128x1024 : Shape := ⟨2, ![128, 1024]⟩
abbrev S1024x1024 : Shape := ⟨2, ![1024, 1024]⟩
abbrev S1024x2048 : Shape := ⟨2, ![1024, 2048]⟩
abbrev S32x1024 : Shape := ⟨2, ![32, 1024]⟩
abbrev S1x2048x512 : Shape := ⟨3, ![1, 2048, 512]⟩
abbrev S2048x512 : Shape := ⟨2, ![2048, 512]⟩
abbrev S1024x512 : Shape := ⟨2, ![1024, 512]⟩
abbrev S128x512 : Shape := ⟨2, ![128, 512]⟩
abbrev S512 : Shape := ⟨1, ![512]⟩
abbrev S1x512 : Shape := ⟨2, ![1, 512]⟩
abbrev S32x512 : Shape := ⟨2, ![32, 512]⟩

abbrev nBuf : Space → Nat
  | .hbm => 53
  | .vmem => 12
  | .smem => 0
  | _ => 0

abbrev bufTy : (tb : Table) → Fin (tcTables nBuf tb) → BufTy
  | .hbm, ⟨0, _⟩ => ⟨S2048x9216, .f32⟩
  | .hbm, ⟨1, _⟩ => ⟨S16x2048x512, .bf16⟩
  | .hbm, ⟨2, _⟩ => ⟨S128, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S128, .i32⟩
  | .hbm, ⟨19, _⟩ => ⟨S128, .f32⟩
  | .hbm, ⟨20, _⟩ => ⟨S1x128, .f32⟩
  | .hbm, ⟨21, _⟩ => ⟨S32x128, .f32⟩
  | .hbm, ⟨22, _⟩ => ⟨S32x128, .f32⟩
  | .hbm, ⟨23, _⟩ => ⟨S32x128, .f32⟩
  | .hbm, ⟨24, _⟩ => ⟨S32x1, .f32⟩
  | .hbm, ⟨25, _⟩ => ⟨S64, .i32⟩
  | .hbm, ⟨26, _⟩ => ⟨S64, .f32⟩
  | .hbm, ⟨27, _⟩ => ⟨S1x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x128, .f32⟩
  | .hbm, ⟨32, _⟩ => ⟨S32x64, .f32⟩
  | .hbm, ⟨33, _⟩ => ⟨S32x128x1, .f32⟩
  | .hbm, ⟨34, _⟩ => ⟨S32x128x64, .f32⟩
  | .hbm, ⟨35, _⟩ => ⟨S32x8192, .f32⟩
  | .hbm, ⟨36, _⟩ => ⟨S32x1x64, .f32⟩
  | .hbm, ⟨37, _⟩ => ⟨S32x128x64, .f32⟩
  | .hbm, ⟨38, _⟩ => ⟨S32x8192, .f32⟩
  | .hbm, ⟨39, _⟩ => ⟨S32x128, .f32⟩
  | .hbm, ⟨40, _⟩ => ⟨S32x64, .f32⟩
  | .hbm, ⟨41, _⟩ => ⟨S32x128x1, .f32⟩
  | .hbm, ⟨42, _⟩ => ⟨S32x128x64, .f32⟩
  | .hbm, ⟨43, _⟩ => ⟨S32x8192, .f32⟩
  | .hbm, ⟨44, _⟩ => ⟨S32x1x64, .f32⟩
  | .hbm, ⟨45, _⟩ => ⟨S32x128x64, .f32⟩
  | .hbm, ⟨46, _⟩ => ⟨S32x8192, .f32⟩
  | .hbm, ⟨47, _⟩ => ⟨S128x8192, .f32⟩
  | .hbm, ⟨48, _⟩ => ⟨S32x8192, .f32⟩
  | .hbm, ⟨49, _⟩ => ⟨S32x8192, .f32⟩
  | .hbm, ⟨50, _⟩ => ⟨S128x8192, .f32⟩
  | .hbm, ⟨51, _⟩ => ⟨S128x1, .f32⟩
  | .hbm, ⟨52, _⟩ => ⟨S2048x8192, .bf16⟩
  | .local _ .vmem, ⟨0, _⟩ => ⟨S2048x1024, .f32⟩
  | .local _ .vmem, ⟨1, _⟩ => ⟨S2048x1024, .f32⟩
  | .local _ .vmem, ⟨2, _⟩ => ⟨S2x2048x512, .bf16⟩
  | .local _ .vmem, ⟨3, _⟩ => ⟨S2x2048x512, .bf16⟩
  | .local _ .vmem, ⟨4, _⟩ => ⟨S128x1, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QueriesIdeal.lean ====
variable {F : FTy → Type} [FloatOps F] [Named F]
def κ : String → Option EReal := fun
  | "q_scale" => some (((Real.sqrt 128)⁻¹ * (Real.log 2)⁻¹ : ℝ) : EReal)
  | _ => none
-- ==== QueriesRefIdeal.lean ====
abbrev S2048x9216 : Shape := ⟨2, ![2048, 9216]⟩
abbrev S16x2048x512 : Shape := ⟨3, ![16, 2048, 512]⟩
abbrev S128 : Shape := ⟨1, ![128]⟩
abbrev S16x512x2048 : Shape := ⟨3, ![16, 512, 2048]⟩
abbrev S8192x2048 : Shape := ⟨2, ![8192, 2048]⟩
abbrev S8192x9216 : Shape := ⟨2, ![8192, 9216]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x16x64 : Shape := ⟨3, ![8192, 16, 64]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x16x32 : Shape := ⟨3, ![8192, 16, 32]⟩
abbrev S2048x8192 : Shape := ⟨2, ![2048, 8192]⟩

abbrev nBuf : Space → Nat
  | .hbm => 105
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S16x2048x512, .bf16⟩
  | .hbm, ⟨2, _⟩ => ⟨S128, .f32⟩
  | .hbm, ⟨3, _⟩ => ⟨S16x2048x512, .f32⟩
  | .hbm, ⟨4, _⟩ => ⟨S16x512x2048, .f32⟩
  | .hbm, ⟨5, _⟩ => ⟨S8192x2048, .f32⟩
  | .hbm, ⟨6, _⟩ => ⟨S8192x9216, .f32⟩
  | .hbm, ⟨7, _⟩ => ⟨S8192x2048, .f32⟩
  | .hbm, ⟨8, _⟩ => ⟨S8192x16x128, .f32⟩
  | .hbm, ⟨9, _⟩ => ⟨S8192x16x128, .f32⟩
  | .hbm, ⟨10, _⟩ => ⟨S_, .f32⟩
  | .hbm, ⟨11, _⟩ => ⟨S8192x16, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S8192x16x1, .f32⟩
  | .hbm, ⟨20, _⟩ => ⟨S8192x16x128, .f32⟩
  | .hbm, ⟨21, _⟩ => ⟨S8192x16x128, .f32⟩
  | .hbm, ⟨22, _⟩ => ⟨S1x1x128, .f32⟩
  | .hbm, ⟨23, _⟩ => ⟨S8192x16x128, .f32⟩
  | .hbm, ⟨24, _⟩ => ⟨S8192x16x128, .f32⟩
  | .hbm, ⟨25, _⟩ => ⟨S128, .i32⟩
  | .hbm, ⟨26, _⟩ => ⟨S128x64, .i32⟩
  | .hbm, ⟨27, _⟩ => ⟨S8192, .i32⟩
  | .hbm, ⟨28, _⟩ => ⟨S64, .i32⟩
  | .hbm, ⟨29, _⟩ => ⟨S1x64, .i32⟩
  | .hbm, ⟨30, _⟩ => ⟨S128x64, .i32⟩
  | .hbm, ⟨31, _⟩ => ⟨S8192, .i32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S8192x16x64, .f32⟩
  | .hbm, ⟨47, _⟩ => ⟨S8192, .f32⟩
  | .hbm, ⟨48, _⟩ => ⟨S8192x1, .f32⟩
  | .hbm, ⟨49, _⟩ => ⟨S1x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x1x32, .f32⟩
  | .hbm, ⟨55, _⟩ => ⟨S8192x32, .f32⟩
  | .hbm, ⟨56, _⟩ => ⟨S8192x1x32, .f32⟩
  | .hbm, ⟨57, _⟩ => ⟨S8192x16x32, .f32⟩
  | .hbm, ⟨58, _⟩ => ⟨S8192x16x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x32, .f32⟩
  | .hbm, ⟨63, _⟩ => ⟨S8192x16x32, .f32⟩
  | .hbm, ⟨64, _⟩ => ⟨S8192x16x32, .f32⟩
  | .hbm, ⟨65, _⟩ => ⟨S8192x16x32, .f32⟩
  | .hbm, ⟨66, _⟩ => ⟨S8192x16x32, .f32⟩
  | .hbm, ⟨67, _⟩ => ⟨S8192x16x32, .f32⟩
  | .hbm, ⟨68, _⟩ => ⟨S8192x16x32, .f32⟩
  | .hbm, ⟨69, _⟩ => ⟨S8192x16x64, .f32⟩
  | .hbm, ⟨70, _⟩ => ⟨S8192x16x64, .f32⟩
  | .hbm, ⟨71, _⟩ => ⟨S8192, .f32⟩
  | .hbm, ⟨72, _⟩ => ⟨S8192x1, .f32⟩
  | .hbm, ⟨73, _⟩ => ⟨S1x32, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x1x32, .f32⟩
  | .hbm, ⟨79, _⟩ => ⟨S8192x32, .f32⟩
  | .hbm, ⟨80, _⟩ => ⟨S8192x1x32, .f32⟩
  | .hbm, ⟨81, _⟩ => ⟨S8192x16x32, .f32⟩
  | .hbm, ⟨82, _⟩ => ⟨S8192x16x32, .f32⟩
  | .hbm, ⟨83, _⟩ => ⟨S8192x16x32, .f32⟩
  | .hbm, ⟨84, _⟩ => ⟨S8192x16x32, .f32⟩
  | .hbm, ⟨85, _⟩ => ⟨S8192x16x32, .f32⟩
  | .hbm, ⟨86, _⟩ => ⟨S8192x16x32, .f32⟩
  | .hbm, ⟨87, _⟩ => ⟨S8192x16x32, .f32⟩
  | .hbm, ⟨88, _⟩ => ⟨S8192x16x32, .f32⟩
  | .hbm, ⟨89, _⟩ => ⟨S8192x16x32, .f32⟩
  | .hbm, ⟨90, _⟩ => ⟨S8192x16x32, .f32⟩
  | .hbm, ⟨91, _⟩ => ⟨S8192x16x32, .f32⟩
  | .hbm, ⟨92, _⟩ => ⟨S8192x16x32, .f32⟩
  | .hbm, ⟨93, _⟩ => ⟨S8192x16x64, .f32⟩
  | .hbm, ⟨94, _⟩ => ⟨S8192x16x128, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S8192x16x128, .f32⟩
  | .hbm, ⟨101, _⟩ => ⟨S8192x16x128, .f32⟩
  | .hbm, ⟨102, _⟩ => ⟨S8192x2048, .f32⟩
  | .hbm, ⟨103, _⟩ => ⟨S2048x8192, .f32⟩
  | .hbm, ⟨104, _⟩ => ⟨S2048x8192, .bf16⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_6 : Ref sig .tc := ⟨.hbm, 95, rfl⟩
abbrev main_v85 : Ref sig .tc := ⟨.hbm, 96, rfl⟩
abbrev main_cst_7 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩

abbrev nD : Nat := 1
abbrev τ : Topo := Topo.v7x

variable {F : FTy → Type} [FloatOps F]
-- ==== Keys.lean ====
abbrev S2048x9216 : Shape := ⟨2, ![2048, 9216]⟩
abbrev S16x2048x512 : Shape := ⟨3, ![16, 2048, 512]⟩
abbrev S128 : Shape := ⟨1, ![128]⟩
abbrev S32 : Shape := ⟨1, ![32]⟩
abbrev S_ : Shape := ⟨0, ![]⟩
abbrev S32x1 : Shape := ⟨2, ![32, 1]⟩
abbrev S1x128 : Shape := ⟨2, ![1, 128]⟩
abbrev S32x128 : Shape := ⟨2, ![32, 128]⟩
abbrev S64 : Shape := ⟨1, ![64]⟩
abbrev S1x64 : Shape := ⟨2, ![1, 64]⟩
abbrev S32x64 : Shape := ⟨2, ![32, 64]⟩
abbrev S32x128x1 : Shape := ⟨3, ![32, 128, 1]⟩
abbrev S32x128x64 : Shape := ⟨3, ![32, 128, 64]⟩
abbrev S32x8192 : Shape := ⟨2, ![32, 8192]⟩
abbrev S32x1x64 : Shape := ⟨3, ![32, 1, 64]⟩
abbrev S128x8192 : Shape := ⟨2, ![128, 8192]⟩
abbrev S128x1 : Shape := ⟨2, ![128, 1]⟩
abbrev S8192x1024 : Shape := ⟨2, ![8192, 1024]⟩
abbrev S576x8192 : Shape := ⟨2, ![576, 8192]⟩
abbrev S2048x1024 : Shape := ⟨2, ![2048, 1024]⟩
abbrev S2x2048x512 : Shape := ⟨3, ![2, 2048, 512]⟩
abbrev S128x1024 : Shape := ⟨2, ![128, 1024]⟩
abbrev S1024x1024 : Shape := ⟨2, ![1024, 1024]⟩
abbrev S576x1024 : Shape := ⟨2, ![576, 1024]⟩
abbrev S1024x2048 : Shape := ⟨2, ![1024, 2048]⟩
abbrev S32x1024 : Shape := ⟨2, ![32, 1024]⟩
abbrev S512x128 : Shape := ⟨2, ![512, 128]⟩
abbrev S16x512 : Shape := ⟨2, ![16, 512]⟩
abbrev S1x2048x512 : Shape := ⟨3, ![1, 2048, 512]⟩
abbrev S2048x512 : Shape := ⟨2, ![2048, 512]⟩
abbrev S1024x512 : Shape := ⟨2, ![1024, 512]⟩
abbrev S128x512 : Shape := ⟨2, ![128, 512]⟩
abbrev S512 : Shape := ⟨1, ![512]⟩
abbrev S1x512 : Shape := ⟨2, ![1, 512]⟩
abbrev S32x512 : Shape := ⟨2, ![32, 512]⟩

abbrev nBuf : Space → Nat
  | .hbm => 54
  | .vmem => 13
  | .smem => 0
  | _ => 0

abbrev bufTy : (tb : Table) → Fin (tcTables nBuf tb) → BufTy
  | .hbm, ⟨0, _⟩ => ⟨S2048x9216, .f32⟩
  | .hbm, ⟨1, _⟩ => ⟨S16x2048x512, .bf16⟩
  | .hbm, ⟨2, _⟩ => ⟨S128, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S128, .i32⟩
  | .hbm, ⟨19, _⟩ => ⟨S128, .f32⟩
  | .hbm, ⟨20, _⟩ => ⟨S1x128, .f32⟩
  | .hbm, ⟨21, _⟩ => ⟨S32x128, .f32⟩
  | .hbm, ⟨22, _⟩ => ⟨S32x128, .f32⟩
  | .hbm, ⟨23, _⟩ => ⟨S32x128, .f32⟩
  | .hbm, ⟨24, _⟩ => ⟨S32x1, .f32⟩
  | .hbm, ⟨25, _⟩ => ⟨S64, .i32⟩
  | .hbm, ⟨26, _⟩ => ⟨S64, .f32⟩
  | .hbm, ⟨27, _⟩ => ⟨S1x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x128, .f32⟩
  | .hbm, ⟨32, _⟩ => ⟨S32x64, .f32⟩
  | .hbm, ⟨33, _⟩ => ⟨S32x128x1, .f32⟩
  | .hbm, ⟨34, _⟩ => ⟨S32x128x64, .f32⟩
  | .hbm, ⟨35, _⟩ => ⟨S32x8192, .f32⟩
  | .hbm, ⟨36, _⟩ => ⟨S32x1x64, .f32⟩
  | .hbm, ⟨37, _⟩ => ⟨S32x128x64, .f32⟩
  | .hbm, ⟨38, _⟩ => ⟨S32x8192, .f32⟩
  | .hbm, ⟨39, _⟩ => ⟨S32x128, .f32⟩
  | .hbm, ⟨40, _⟩ => ⟨S32x64, .f32⟩
  | .hbm, ⟨41, _⟩ => ⟨S32x128x1, .f32⟩
  | .hbm, ⟨42, _⟩ => ⟨S32x128x64, .f32⟩
  | .hbm, ⟨43, _⟩ => ⟨S32x8192, .f32⟩
  | .hbm, ⟨44, _⟩ => ⟨S32x1x64, .f32⟩
  | .hbm, ⟨45, _⟩ => ⟨S32x128x64, .f32⟩
  | .hbm, ⟨46, _⟩ => ⟨S32x8192, .f32⟩
  | .hbm, ⟨47, _⟩ => ⟨S128x8192, .f32⟩
  | .hbm, ⟨48, _⟩ => ⟨S32x8192, .f32⟩
  | .hbm, ⟨49, _⟩ => ⟨S32x8192, .f32⟩
  | .hbm, ⟨50, _⟩ => ⟨S128x8192, .f32⟩
  | .hbm, ⟨51, _⟩ => ⟨S128x1, .f32⟩
  | .hbm, ⟨52, _⟩ => ⟨S8192x1024, .bf16⟩
  | .hbm, ⟨53, _⟩ => ⟨S576x8192, .bf16⟩
  | .local _ .vmem, ⟨0, _⟩ => ⟨S2048x1024, .f32⟩
  | .local _ .vmem, ⟨1, _⟩ => ⟨S2x2048x512, .bf16⟩
  | .local _ .vmem, ⟨2, _⟩ => ⟨S2x2048x512, .bf16⟩
  | .local _ .vmem, ⟨3, _⟩ => ⟨S128x1, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1024x1024, .bf16⟩
  | .local _ .vmem, ⟨9, _⟩ => ⟨S1024x1024, .bf16⟩
  | .local _ .vmem, ⟨10, _⟩ => ⟨S576x1024, .bf16⟩
  | .local _ .vmem, ⟨11, _⟩ => ⟨S576x1024, .bf16⟩
  | .local _ .vmem, ⟨12, _⟩ => ⟨S1024x2048, .bf16⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45_0 : Ref sig .tc := ⟨.hbm, 52, rfl⟩
abbrev main_v45_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S576x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KeysRefIdeal.lean ====
abbrev S2048x9216 : Shape := ⟨2, ![2048, 9216]⟩
abbrev S16x2048x512 : Shape := ⟨3, ![16, 2048, 512]⟩
abbrev S128 : Shape := ⟨1, ![128]⟩
abbrev S16x512x2048 : Shape := ⟨3, ![16, 512, 2048]⟩
abbrev S8192x2048 : Shape := ⟨2, ![8192, 2048]⟩
abbrev S8192x9216 : Shape := ⟨2, ![8192, 9216]⟩
abbrev S8192x512 : Shape := ⟨2, ![8192, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x4x64 : Shape := ⟨3, ![8192, 4, 64]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x4x32 : Shape := ⟨3, ![8192, 4, 32]⟩
abbrev S8192x4x127 : Shape := ⟨3, ![8192, 4, 127]⟩
abbrev S8192x4x256 : Shape := ⟨3, ![8192, 4, 256]⟩
abbrev S8192x4x15 : Shape := ⟨3, ![8192, 4, 15]⟩
abbrev S8192x4x144 : Shape := ⟨3, ![8192, 4, 144]⟩
abbrev S8192x1024 : Shape := ⟨2, ![8192, 1024]⟩
abbrev S8192x576 : Shape := ⟨2, ![8192, 576]⟩
abbrev S576x8192 : Shape := ⟨2, ![576, 8192]⟩

abbrev nBuf : Space → Nat
  | .hbm => 110
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S16x2048x512, .bf16⟩
  | .hbm, ⟨2, _⟩ => ⟨S128, .f32⟩
  | .hbm, ⟨3, _⟩ => ⟨S16x2048x512, .f32⟩
  | .hbm, ⟨4, _⟩ => ⟨S16x512x2048, .f32⟩
  | .hbm, ⟨5, _⟩ => ⟨S8192x2048, .f32⟩
  | .hbm, ⟨6, _⟩ => ⟨S8192x9216, .f32⟩
  | .hbm, ⟨7, _⟩ => ⟨S8192x512, .f32⟩
  | .hbm, ⟨8, _⟩ => ⟨S8192x4x128, .f32⟩
  | .hbm, ⟨9, _⟩ => ⟨S8192x4x128, .f32⟩
  | .hbm, ⟨10, _⟩ => ⟨S_, .f32⟩
  | .hbm, ⟨11, _⟩ => ⟨S8192x4, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S_, .f32⟩
  | .hbm, ⟨17, _⟩ => ⟨S8192x4x1, .f32⟩
  | .hbm, ⟨18, _⟩ => ⟨S8192x4x1, .f32⟩
  | .hbm, ⟨19, _⟩ => ⟨S8192x4x1, .f32⟩
  | .hbm, ⟨20, _⟩ => ⟨S8192x4x128, .f32⟩
  | .hbm, ⟨21, _⟩ => ⟨S8192x4x128, .f32⟩
  | .hbm, ⟨22, _⟩ => ⟨S1x1x128, .f32⟩
  | .hbm, ⟨23, _⟩ => ⟨S8192x4x128, .f32⟩
  | .hbm, ⟨24, _⟩ => ⟨S8192x4x128, .f32⟩
  | .hbm, ⟨25, _⟩ => ⟨S128, .i32⟩
  | .hbm, ⟨26, _⟩ => ⟨S128x64, .i32⟩
  | .hbm, ⟨27, _⟩ => ⟨S8192, .i32⟩
  | .hbm, ⟨28, _⟩ => ⟨S64, .i32⟩
  | .hbm, ⟨29, _⟩ => ⟨S1x64, .i32⟩
  | .hbm, ⟨30, _⟩ => ⟨S128x64, .i32⟩
  | .hbm, ⟨31, _⟩ => ⟨S8192, .i32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S8192x4x64, .f32⟩
  | .hbm, ⟨47, _⟩ => ⟨S8192, .f32⟩
  | .hbm, ⟨48, _⟩ => ⟨S8192x1, .f32⟩
  | .hbm, ⟨49, _⟩ => ⟨S1x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x1x32, .f32⟩
  | .hbm, ⟨55, _⟩ => ⟨S8192x32, .f32⟩
  | .hbm, ⟨56, _⟩ => ⟨S8192x1x32, .f32⟩
  | .hbm, ⟨57, _⟩ => ⟨S8192x4x32, .f32⟩
  | .hbm, ⟨58, _⟩ => ⟨S8192x4x32, .f32⟩
  | .hbm, ⟨59, _⟩ => ⟨S8192x4x32, .f32⟩
  | .hbm, ⟨60, _⟩ => ⟨S8192x4x32, .f32⟩
  | .hbm, ⟨61, _⟩ => ⟨S8192x4x32, .f32⟩
  | .hbm, ⟨62, _⟩ => ⟨S8192x4x32, .f32⟩
  | .hbm, ⟨63, _⟩ => ⟨S8192x4x32, .f32⟩
  | .hbm, ⟨64, _⟩ => ⟨S8192x4x32, .f32⟩
  | .hbm, ⟨65, _⟩ => ⟨S8192x4x32, .f32⟩
  | .hbm, ⟨66, _⟩ => ⟨S8192x4x32, .f32⟩
  | .hbm, ⟨67, _⟩ => ⟨S8192x4x32, .f32⟩
  | .hbm, ⟨68, _⟩ => ⟨S8192x4x32, .f32⟩
  | .hbm, ⟨69, _⟩ => ⟨S8192x4x64, .f32⟩
  | .hbm, ⟨70, _⟩ => ⟨S8192x4x64, .f32⟩
  | .hbm, ⟨71, _⟩ => ⟨S8192, .f32⟩
  | .hbm, ⟨72, _⟩ => ⟨S8192x1, .f32⟩
  | .hbm, ⟨73, _⟩ => ⟨S1x32, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x1x32, .f32⟩
  | .hbm, ⟨79, _⟩ => ⟨S8192x32, .f32⟩
  | .hbm, ⟨80, _⟩ => ⟨S8192x1x32, .f32⟩
  | .hbm, ⟨81, _⟩ => ⟨S8192x4x32, .f32⟩
  | .hbm, ⟨82, _⟩ => ⟨S8192x4x32, .f32⟩
  | .hbm, ⟨83, _⟩ => ⟨S8192x4x32, .f32⟩
  | .hbm, ⟨84, _⟩ => ⟨S8192x4x32, .f32⟩
  | .hbm, ⟨85, _⟩ => ⟨S8192x4x32, .f32⟩
  | .hbm, ⟨86, _⟩ => ⟨S8192x4x32, .f32⟩
  | .hbm, ⟨87, _⟩ => ⟨S8192x4x32, .f32⟩
  | .hbm, ⟨88, _⟩ => ⟨S8192x4x32, .f32⟩
  | .hbm, ⟨89, _⟩ => ⟨S8192x4x32, .f32⟩
  | .hbm, ⟨90, _⟩ => ⟨S8192x4x32, .f32⟩
  | .hbm, ⟨91, _⟩ => ⟨S8192x4x32, .f32⟩
  | .hbm, ⟨92, _⟩ => ⟨S8192x4x32, .f32⟩
  | .hbm, ⟨93, _⟩ => ⟨S8192x4x64, .f32⟩
  | .hbm, ⟨94, _⟩ => ⟨S8192x4x128, .f32⟩
  | .hbm, ⟨95, _⟩ => ⟨S8192x512, .f32⟩
  | .hbm, ⟨96, _⟩ => ⟨S8192x4x128, .f32⟩
  | .hbm, ⟨97, _⟩ => ⟨S_, .f32⟩
  | .hbm, ⟨98, _⟩ => ⟨S8192x4x1, .f32⟩
  | .hbm, ⟨99, _⟩ => ⟨S_, .f32⟩
  | .hbm, ⟨100, _⟩ => ⟨S8192x4x127, .f32⟩
  | .hbm, ⟨101, _⟩ => ⟨S8192x4x256, .f32⟩
  | .hbm, ⟨102, _⟩ => ⟨S_, .f32⟩
  | .hbm, ⟨103, _⟩ => ⟨S8192x4x15, .f32⟩
  | .hbm, ⟨104, _⟩ => ⟨S8192x4x144, .f32⟩
  | .hbm, ⟨105, _⟩ => ⟨S8192x1024, .f32⟩
  | .hbm, ⟨106, _⟩ => ⟨S8192x1024, .bf16⟩
  | .hbm, ⟨107, _⟩ => ⟨S8192x576, .f32⟩
  | .hbm, ⟨108, _⟩ => ⟨S576x8192, .f32⟩
  | .hbm, ⟨109, _⟩ => ⟨S576x8192, .bf16⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_6 : Ref sig .tc := ⟨.hbm, 97, rfl⟩
abbrev main_v87 : Ref sig .tc := ⟨.hbm, 98, rfl⟩
abbrev main_cst_7 : Ref sig .tc := ⟨.hbm, 99, rfl⟩
abbrev main_v88 : Ref sig .tc := ⟨.hbm, 100, rfl⟩
abbrev main_v89 : Ref sig .tc := ⟨.hbm, 101, rfl⟩
abbrev main_cst_8 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩

abbrev nD : Nat := 1
abbrev τ : Topo := Topo.v7x

variable {F : FTy → Type} [FloatOps F]
-- ==== Proof.AttnTrip.lean ====
/-
  One trip of the attention body's loop over key blocks, and the loop as a whole, as vectors: four
  key blocks a trip, each adding its exponentials to the running sum, its weighted values to the
  accumulator, and leaving its own exponentials for the next block.
-/
module

public import proofs.«01_k».proof.Proof.Gen.KernelIdeal.Loops
public import Idealize.ShloMosaic.Lib.VecWindow
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- Key block `n`: rows `512 n … 512 n + 511` of the group's keys. -/
def kc (x : Vec Ideal S8192x256 .bf16) (n : ℕ) : Vec Ideal S512x256 .bf16 :=
  fun y => x (ix2 (Fin.ofNat 8192 (512 * n + (y 0).val)) (y 1))

/-- Value block `n`: the first 128 rows of the group's values at columns `512 n … 512 n + 511`. -/
def vc (x : Vec Ideal S144x8192 .bf16) (n : ℕ) : Vec Ideal S128x512 .bf16 :=
  fun y => x (ix2 (Fin.ofNat 144 (y 0).val) (Fin.ofNat 8192 (512 * n + (y 1).val)))

/-- The exponentials of a key block against the staged queries. -/
abbrev prb (a : Vec Ideal S512x256 .bf16) (q : Vec Ideal S256x4096 .bf16) : Vec Ideal S512x4096 .bf16 :=
  k0_pay35 (F := Ideal) a q

/-- The running sum with a key block's exponentials added. -/
abbrev sm (l : FVec Ideal S1x4096 .f32) (a : Vec Ideal S512x256 .bf16) (q : Vec Ideal S256x4096 .bf16) :
    FVec Ideal S1x4096 .f32 := k0_pay36 (F := Ideal) l a q

/-- The accumulator with a value block's product with exponentials added. -/
abbrev ac (v : Vec Ideal S128x512 .bf16) (A : Vec Ideal S128x4096 .f32) (p : Vec Ideal S512x4096 .bf16) :
    Vec Ideal S128x4096 .f32 := k0_pay37 (F := Ideal) v A p

theorem kc_window (x : Vec Ideal S8192x256 .bf16) (n : ℕ) (off : Fin 2 → ℕ) (inb) (h : off = ![512 * n, 0])
    (hn : n < 16) : VecWindow.window x off S512x256.size inb = kc x n := by
  subst h
  funext y
  unfold VecWindow.window kc
  refine congrArg x (funext fun a => Fin.ext ?_)
  have h0 : (y 0).val < 512 := (y 0).isLt
  match a with
  | ⟨0, _⟩ => show 512 * n + 1 * (y 0).val = (512 * n + (y 0).val) % 8192; omega
  | ⟨1, _⟩ => show 0 + 1 * (y 1).val = (y 1).val; omega

theorem vc_window (x : Vec Ideal S144x8192 .bf16) (n : ℕ) (off : Fin 2 → ℕ) (inb) (h : off = ![0, 512 * n])
    (hn : n < 16) : VecWindow.window x off S128x512.size inb = vc x n := by
  subst h
  funext y
  unfold VecWindow.window vc
  refine congrArg x (funext fun a => Fin.ext ?_)
  have h0 : (y 0).val < 128 := (y 0).isLt
  have h1 : (y 1).val < 512 := (y 1).isLt
  match a with
  | ⟨0, _⟩ => show 0 + 1 * (y 0).val = (y 0).val % 144; omega
  | ⟨1, _⟩ => show 512 * n + 1 * (y 1).val = (512 * n + (y 1).val) % 8192; omega

theorem readK (arg4 : Memref sig .tc .vmem S8192x256 .bf16) (X : BufTy.Contents (Elt Ideal) arg4.view.ty) (n : ℕ)
    (off : Fin 2 → ℕ) (inb) (h : off = ![512 * n, 0]) (hn : n < 16) :
    View.readAt (Elt Ideal) arg4.view (Rect.unit (s := S8192x256) off S512x256.size inb).toLoadRect X
      = kc (arg4.view.read (Elt Ideal) X) n :=
  kc_window _ n off inb h hn

theorem readV (arg5 : Memref sig .tc .vmem S144x8192 .bf16) (X : BufTy.Contents (Elt Ideal) arg5.view.ty) (n : ℕ)
    (off : Fin 2 → ℕ) (inb) (h : off = ![0, 512 * n]) (hn : n < 16) :
    View.readAt (Elt Ideal) arg5.view (Rect.unit (s := S144x8192) off S128x512.size inb).toLoadRect X
      = vc (arg5.view.read (Elt Ideal) X) n :=
  vc_window _ n off inb h hn

section
variable {sp : Space} {S : Shape} {e : EltTy}

theorem rd_full (v : View sig .tc sp S e) (f : v.ty.Contents (Elt Ideal)) {off : Fin S.rank → ℕ}
    (inb : ∀ a, off a + S.size a ≤ S.size a) :
    v.readAt (Elt Ideal) (Rect.unit off (no_index S.size) inb).toLoadRect f = v.read (Elt Ideal) f :=
  View.readAt_full v f inb

theorem rc_full (v : View sig .tc sp S e) {off off' : Fin S.rank → ℕ}
    (inb : ∀ a, off a + S.size a ≤ S.size a) (inb' : ∀ a, off' a + S.size a ≤ S.size a)
    (w : S.Idx → Elt Ideal e) (L : List (View.Piece (Elt Ideal) S e)) :
    v.readCov ((⟨Rect.unit off' (no_index S.size) inb', w⟩ : View.Piece (Elt Ideal) S e) :: L)
      (Rect.unit off (no_index S.size) inb).toLoadRect = w :=
  View.readCov_full v inb inb' w L

theorem rw_full (v : View sig .tc sp S e) (f : v.ty.Contents (Elt Ideal)) {off : Fin S.rank → ℕ}
    (inb : ∀ a, off a + S.size a ≤ S.size a) (w : S.Idx → Elt Ideal e)
    (L : List (View.Piece (Elt Ideal) S e)) :
    v.read (Elt Ideal) (v.writes (Elt Ideal) f
      ((⟨Rect.unit off (no_index S.size) inb, w⟩ : View.Piece (Elt Ideal) S e) :: L)) = w :=
  View.read_writes_full v f inb w L
end

theorem trips_eq : k0_t1_loop.trips = 3 := by decide +kernel

section
variable (𝒱 : Variants) (c : Dev nD) (bd : Option 𝒱.V) (i : grid0.Coords) (arg2 : Memref sig .tc .smem S1x1 .f32) (harg2 : arg2.IsWhole) (arg3 : Memref sig .tc .vmem S512x1024 .bf16) (harg3 : arg3.IsWhole) (arg4 : Memref sig .tc .vmem S8192x256 .bf16) (harg4 : arg4.IsWhole) (arg5 : Memref sig .tc .vmem S144x8192 .bf16) (harg5 : arg5.IsWhole) (arg6 : Memref sig .tc .vmem S256x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x8192 .f32) (harg10 : arg10.IsWhole) (arg11 : Memref sig .tc .vmem S32x2048 .f32) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S64x8192 .bf16) (harg17 : arg17.IsWhole) (arg18 : Memref sig .tc .vmem S32x2048 .bf16) (harg18 : arg18.IsWhole) (arg19 : Memref sig .tc .vmem S256x4096 .bf16) (harg19 : arg19.IsWhole) (arg20 : Memref sig .tc .vmem S128x4096 .f32) (harg20 : arg20.IsWhole) (arg21 : Memref sig .tc .vmem S512x4096 .bf16) (harg21 : arg21.IsWhole) (arg22 : Memref sig .tc .vmem S512x4096 .bf16) (harg22 : arg22.IsWhole) (v50 : FVec Ideal S1x4096 .f32) (v51 : Vec Ideal S512x256 .bf16) (X4 : BufTy.Contents (Elt Ideal) arg4.view.ty) (X5 : BufTy.Contents (Elt Ideal) arg5.view.ty) (X19 : BufTy.Contents (Elt Ideal) arg19.view.ty) (k : Fin k0_t1_loop.trips) (acc : FVec Ideal S1x4096 .f32) (f20 : BufTy.Contents (Elt Ideal) arg20.view.ty) (f21 : BufTy.Contents (Elt Ideal) arg21.view.ty) (f22 : BufTy.Contents (Elt Ideal) arg22.view.ty)

theorem koff (r : Fin 4) (n : ℕ) (h : n = 4 * k.val + r.val + 1) :
    k0_off1 k (BitVec.ofNat 32 r.val) = ![512 * n, 0] := by
  rw [k0_off1_eq k r, h]; congr 1; omega

theorem voff (r : Fin 4) (n : ℕ) (h : n = 4 * k.val + r.val) :
    k0_off2 k (BitVec.ofNat 32 r.val) = ![0, 512 * n] := by
  rw [k0_off2_eq k r, h]
  have : 2048 * k.val + 512 * r.val = 512 * (4 * k.val + r.val) := by omega
  rw [this]

/-- The sum a trip yields. -/
theorem trip_R : tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 k acc f20 f21 f22
    = sm (sm (sm (sm acc (kc (arg4.view.read (Elt Ideal) X4) (4 * k.val + 1)) (arg19.view.read (Elt Ideal) X19))
        (kc (arg4.view.read (Elt Ideal) X4) (4 * k.val + 2)) (arg19.view.read (Elt Ideal) X19))
        (kc (arg4.view.read (Elt Ideal) X4) (4 * k.val + 3)) (arg19.view.read (Elt Ideal) X19))
        (kc (arg4.view.read (Elt Ideal) X4) (4 * k.val + 4)) (arg19.view.read (Elt Ideal) X19) := by
  have hk : k.val < 3 := trips_eq ▸ k.isLt
  unfold tripR_k0_t1 trip_k0_t1
  dsimp only
  sl_unfold_words
  simp only [rd_full, rc_full, rw_full]
  rw [← readK arg4 X4 (4 * k.val + 1) _ (k0_off1_inb k 0) (koff k 0 _ rfl) (by omega),
    ← readK arg4 X4 (4 * k.val + 2) _ (k0_off1_inb k 1) (koff k 1 _ rfl) (by omega),
    ← readK arg4 X4 (4 * k.val + 3) _ (k0_off1_inb k 2) (koff k 2 _ rfl) (by omega),
    ← readK arg4 X4 (4 * k.val + 4) _ (k0_off1_inb k 3) (koff k 3 _ rfl) (by omega)]
  rfl

/-- What a trip leaves in the accumulator. -/
theorem trip_20 : arg20.view.read (Elt Ideal) (arg20.view.writes (Elt Ideal) f20
      (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 k acc f20 f21 f22).1)
    = ac (vc (arg5.view.read (Elt Ideal) X5) (4 * k.val + 3))
        (ac (vc (arg5.view.read (Elt Ideal) X5) (4 * k.val + 2))
          (ac (vc (arg5.view.read (Elt Ideal) X5) (4 * k.val + 1))
            (ac (vc (arg5.view.read (Elt Ideal) X5) (4 * k.val)) (arg20.view.read (Elt Ideal) f20)
              (arg21.view.read (Elt Ideal) f21))
            (prb (kc (arg4.view.read (Elt Ideal) X4) (4 * k.val + 1)) (arg19.view.read (Elt Ideal) X19)))
          (prb (kc (arg4.view.read (Elt Ideal) X4) (4 * k.val + 2)) (arg19.view.read (Elt Ideal) X19)))
        (prb (kc (arg4.view.read (Elt Ideal) X4) (4 * k.val + 3)) (arg19.view.read (Elt Ideal) X19)) := by
  have hk : k.val < 3 := trips_eq ▸ k.isLt
  unfold tripL_k0_t1 trip_k0_t1
  dsimp only
  sl_unfold_words
  simp only [rd_full, rc_full, rw_full]
  rw [← readK arg4 X4 (4 * k.val + 1) _ (k0_off1_inb k 0) (koff k 0 _ rfl) (by omega),
    ← readK arg4 X4 (4 * k.val + 2) _ (k0_off1_inb k 1) (koff k 1 _ rfl) (by omega),
    ← readK arg4 X4 (4 * k.val + 3) _ (k0_off1_inb k 2) (koff k 2 _ rfl) (by omega),
    ← readV arg5 X5 (4 * k.val) _ (k0_off2_inb k 0) (voff k 0 _ rfl) (by omega),
    ← readV arg5 X5 (4 * k.val + 1) _ (k0_off2_inb k 1) (voff k 1 _ rfl) (by omega),
    ← readV arg5 X5 (4 * k.val + 2) _ (k0_off2_inb k 2) (voff k 2 _ rfl) (by omega),
    ← readV arg5 X5 (4 * k.val + 3) _ (k0_off2_inb k 3) (voff k 3 _ rfl) (by omega)]
  rfl

/-- What a trip leaves in the buffer the next trip reads its first block of exponentials from. -/
theorem trip_21 : arg21.view.read (Elt Ideal) (arg21.view.writes (Elt Ideal) f21
      (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 k acc f20 f21 f22).2.1)
    = prb (kc (arg4.view.read (Elt Ideal) X4) (4 * k.val + 4)) (arg19.view.read (Elt Ideal) X19) := by
  have hk : k.val < 3 := trips_eq ▸ k.isLt
  unfold tripL_k0_t1 trip_k0_t1
  dsimp only
  sl_unfold_words
  simp only [rd_full, rc_full, rw_full]
  rw [← readK arg4 X4 (4 * k.val + 4) _ (k0_off1_inb k 3) (koff k 3 _ rfl) (by omega)]
  rfl
end

end Cert.KernelIdeal.Attn
-- ==== Proof.AttnLoop.lean ====
/-
  The attention body's loop as a whole: after three trips the running sum holds thirteen key blocks,
  the accumulator twelve, and the first buffer the exponentials of the thirteenth. And the sixteen-block
  sum and accumulator entry by entry, as sums over the 8192 keys.
-/
module

public import proofs.«01_k».proof.Proof.AttnTrip

@[expose] public section

set_option maxRecDepth 16384

noncomputable section

namespace Cert.KernelIdeal.Attn

open Cert.KernelIdeal Cert.KernelIdeal.Gen Idealize.ShloMosaic Idealize.ShloMosaic.TcCoe Idealize.SL.Sem

/-- The running sum after `n` key blocks. -/
def lN (x : Vec Ideal S8192x256 .bf16) (q : Vec Ideal S256x4096 .bf16) : ℕ → FVec Ideal S1x4096 .f32
  | 0 => k0_pay29 (F := Ideal)
  | n + 1 => sm (lN x q n) (kc x n) q

/-- The accumulator after `n` key blocks. -/
def aN (x : Vec Ideal S8192x256 .bf16) (v : Vec Ideal S144x8192 .bf16) (q : Vec Ideal S256x4096 .bf16) :
    ℕ → Vec Ideal S128x4096 .f32
  | 0 => k0_pay28 (F := Ideal)
  | n + 1 => ac (vc v n) (aN x v q n) (prb (kc x n) q)

section
variable (𝒱 : Variants) (c : Dev nD) (bd : Option 𝒱.V) (i : grid0.Coords) (arg2 : Memref sig .tc .smem S1x1 .f32) (harg2 : arg2.IsWhole) (arg3 : Memref sig .tc .vmem S512x1024 .bf16) (harg3 : arg3.IsWhole) (arg4 : Memref sig .tc .vmem S8192x256 .bf16) (harg4 : arg4.IsWhole) (arg5 : Memref sig .tc .vmem S144x8192 .bf16) (harg5 : arg5.IsWhole) (arg6 : Memref sig .tc .vmem S256x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x8192 .f32) (harg10 : arg10.IsWhole) (arg11 : Memref sig .tc .vmem S32x2048 .f32) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S64x8192 .bf16) (harg17 : arg17.IsWhole) (arg18 : Memref sig .tc .vmem S32x2048 .bf16) (harg18 : arg18.IsWhole) (arg19 : Memref sig .tc .vmem S256x4096 .bf16) (harg19 : arg19.IsWhole) (arg20 : Memref sig .tc .vmem S128x4096 .f32) (harg20 : arg20.IsWhole) (arg21 : Memref sig .tc .vmem S512x4096 .bf16) (harg21 : arg21.IsWhole) (arg22 : Memref sig .tc .vmem S512x4096 .bf16) (harg22 : arg22.IsWhole) (v50 : FVec Ideal S1x4096 .f32) (v51 : Vec Ideal S512x256 .bf16) (X4 : BufTy.Contents (Elt Ideal) arg4.view.ty) (X5 : BufTy.Contents (Elt Ideal) arg5.view.ty) (X19 : BufTy.Contents (Elt Ideal) arg19.view.ty) (G20 : BufTy.Contents (Elt Ideal) arg20.view.ty) (G21 : BufTy.Contents (Elt Ideal) arg21.view.ty) (G22 : BufTy.Contents (Elt Ideal) arg22.view.ty) (init : FVec Ideal S1x4096 .f32)
  (x : Vec Ideal S8192x256 .bf16) (v : Vec Ideal S144x8192 .bf16) (q : Vec Ideal S256x4096 .bf16)

/-- The state before trip `k`: `4k + 1` blocks summed, `4k` accumulated, block `4k`'s exponentials kept. -/
theorem loop_inv (hx : arg4.view.read (Elt Ideal) X4 = x) (hv : arg5.view.read (Elt Ideal) X5 = v)
    (hq : arg19.view.read (Elt Ideal) X19 = q) (h0 : init = lN x q 1)
    (h20 : arg20.view.read (Elt Ideal) G20 = aN x v q 0) (h21 : arg21.view.read (Elt Ideal) G21 = prb (kc x 0) q) :
    ∀ k : ℕ, k ≤ 3 →
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G20 G21 G22 init k).1 = lN x q (4 * k + 1)
      ∧ arg20.view.read (Elt Ideal) (arg20.view.writes (Elt Ideal) G20
          (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G20 G21 G22 init k).2.1) = aN x v q (4 * k)
      ∧ arg21.view.read (Elt Ideal) (arg21.view.writes (Elt Ideal) G21
          (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G20 G21 G22 init k).2.2.1) = prb (kc x (4 * k)) q := by
  intro k
  induction k with
  | zero =>
    intro _
    exact ⟨h0, h20, h21⟩
  | succ k ih =>
    intro hk
    obtain ⟨i1, i2, i3⟩ := ih (by omega)
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G20 G21 G22 init ⟨k, by rw [trips_eq]; omega⟩
    dsimp only at hs
    rw [hs]
    dsimp only
    refine ⟨?_, ?_, ?_⟩
    · rw [trip_R, hx, hq, i1]; rfl
    · rw [View.writes_append, trip_20, hx, hv, hq, i2, i3]; rfl
    · rw [View.writes_append, trip_21, hx, hq]; rfl
end

/-- The exponential of key row `s` against column `y` of the staged queries. -/
def E (x : Vec Ideal S8192x256 .bf16) (q : Vec Ideal S256x4096 .bf16) (s : Fin 8192) (y : Fin 4096) : Ideal .f32 :=
  Ideal.exp2 (∑ r : Fin 256, x (ix2 s r) * q (ix2 r y))

theorem prb_apply (a : Vec Ideal S512x256 .bf16) (q : Vec Ideal S256x4096 .bf16) (s : Fin 512) (y : Fin 4096) :
    prb a q (ix2 s y) = Ideal.exp2 (∑ r : Fin 256, a (ix2 s r) * q (ix2 r y)) := by
  pointwise [prb, k0_pay35, k0_pay34]
  rfl

theorem sm_apply (l : FVec Ideal S1x4096 .f32) (a : Vec Ideal S512x256 .bf16) (q : Vec Ideal S256x4096 .bf16)
    (y : Fin 4096) :
    sm l a q (ix2 (0 : Fin 1) y) = l (ix2 (0 : Fin 1) y) + ∑ s : Fin 512, prb a q (ix2 s y) := by
  pointwise [sm, prb, k0_pay36, k0_pay35, k0_pay34]

theorem ac_apply (v : Vec Ideal S128x512 .bf16) (A : Vec Ideal S128x4096 .f32) (p : Vec Ideal S512x4096 .bf16)
    (d : Fin 128) (y : Fin 4096) :
    ac v A p (ix2 d y) = A (ix2 d y) + ∑ s : Fin 512, v (ix2 d s) * p (ix2 s y) := by
  pointwise [ac, k0_pay37]

theorem pay29_apply (y : Fin 4096) : k0_pay29 (F := Ideal) (ix2 (0 : Fin 1) y) = 0 := by
  pointwise [k0_pay29]

theorem pay28_apply (d : Fin 128) (y : Fin 4096) : k0_pay28 (F := Ideal) (ix2 d y) = 0 := by
  pointwise [k0_pay28]

theorem prb_kc (x : Vec Ideal S8192x256 .bf16) (q : Vec Ideal S256x4096 .bf16) (n : ℕ) (s : Fin 512) (y : Fin 4096) :
    prb (kc x n) q (ix2 s y) = E x q (Fin.ofNat 8192 (512 * n + s.val)) y := by
  rw [prb_apply]; rfl

theorem lN_apply (x : Vec Ideal S8192x256 .bf16) (q : Vec Ideal S256x4096 .bf16) (y : Fin 4096) (n : ℕ) :
    lN x q n (ix2 (0 : Fin 1) y)
      = ∑ b ∈ Finset.range n, ∑ s : Fin 512, E x q (Fin.ofNat 8192 (512 * b + s.val)) y := by
  induction n with
  | zero => exact pay29_apply y
  | succ n ih =>
    rw [Finset.sum_range_succ, ← ih]
    show sm (lN x q n) (kc x n) q _ = _
    rw [sm_apply]
    simp only [prb_kc]

theorem aN_apply (x : Vec Ideal S8192x256 .bf16) (v : Vec Ideal S144x8192 .bf16) (q : Vec Ideal S256x4096 .bf16)
    (d : Fin 128) (y : Fin 4096) (n : ℕ) :
    aN x v q n (ix2 d y)
      = ∑ b ∈ Finset.range n, ∑ s : Fin 512, v (ix2 (Fin.ofNat 144 d.val) (Fin.ofNat 8192 (512 * b + s.val)))
          * E x q (Fin.ofNat 8192 (512 * b + s.val)) y := by
  induction n with
  | zero => exact pay28_apply d y
  | succ n ih =>
    rw [Finset.sum_range_succ, ← ih]
    show ac (vc v n) (aN x v q n) (prb (kc x n) q) _ = _
    rw [ac_apply]
    simp only [prb_kc]
    rfl

theorem sum_blocks {M : Type} [AddCommMonoid M] (f : Fin 8192 → M) :
    ∑ b ∈ Finset.range 16, ∑ s : Fin 512, f (Fin.ofNat 8192 (512 * b + s.val)) = ∑ s : Fin 8192, f s := by
  rw [Finset.sum_range, Fin.sum_univ_tiles 16 512 rfl f]
  refine Finset.sum_congr rfl fun b _ => Finset.sum_congr rfl fun s _ => congrArg f (Fin.ext ?_)
  show (512 * b.val + s.val) % 8192 = b.val * 512 + s.val
  omega

/-- The sum over all sixteen blocks is over all keys. -/
theorem lN_16 (x : Vec Ideal S8192x256 .bf16) (q : Vec Ideal S256x4096 .bf16) (y : Fin 4096) :
    lN x q 16 (ix2 (0 : Fin 1) y) = ∑ s : Fin 8192, E x q s y := by
  rw [lN_apply, sum_blocks fun s => E x q s y]

/-- The accumulator over all sixteen blocks is over all keys. -/
theorem aN_16 (x : Vec Ideal S8192x256 .bf16) (v : Vec Ideal S144x8192 .bf16) (q : Vec Ideal S256x4096 .bf16)
    (d : Fin 128) (y : Fin 4096) :
    aN x v q 16 (ix2 d y) = ∑ s : Fin 8192, v (ix2 (Fin.ofNat 144 d.val) s) * E x q s y := by
  rw [aN_apply, sum_blocks fun s => v (ix2 (Fin.ofNat 144 d.val) s) * E x q s y]

end Cert.KernelIdeal.Attn
-- ==== Proof.AttnBody.lean ====
/-
  What the attention body stages and leaves: the staged queries and the attention block, as functions of the
  input blocks.
-/
module

public import proofs.«01_k».proof.Proof.AttnLoop

@[expose] public section

set_option maxRecDepth 16384

noncomputable section

namespace Cert.KernelIdeal.Attn

open Cert.KernelIdeal Cert.KernelIdeal.Gen Idealize.ShloMosaic Idealize.ShloMosaic.TcCoe Idealize.SL.Sem

/-- The staged queries: the four heads' queries side by side in the first 128 rows, the negated bound in row 128,
    zeros below. -/
def QS (x0 : Vec Ideal S1x1 .f32) (x1 : Vec Ideal S512x1024 .bf16) : Vec Ideal S256x4096 .bf16 := fun j =>
  if (j 0).val < 128 then x1 (ix2 (Fin.ofNat 512 ((j 1).val / 1024 * 128 + (j 0).val)) (Fin.ofNat 1024 ((j 1).val % 1024)))
  else if (j 0).val = 128 then (0 : EReal) - x0 (ix2 0 0) else (0 : EReal)

theorem pay27_apply (b : Elt Ideal .f32) (r : Fin 128) (y : Fin 4096) :
    k0_pay27 (F := Ideal) b (ix2 r y) = if r.val = 0 then (0 : EReal) - b else (0 : EReal) := by
  pointwise [k0_pay27]
  have e : (BitVec.ofNat 32 r.val = 0#32) ↔ r.val = 0 := by
    have := r.isLt
    rw [← BitVec.toNat_inj]; simp; omega
  by_cases hr : r.val = 0
  · simp [Scalar.select, IntOp.cmpi, e, hr]
  · have e' : (BitVec.ofNat 32 r.val == 0#32) = false := beq_eq_false_iff_ne.2 (mt e.1 hr)
    simp [Scalar.select, IntOp.cmpi, e', hr]

theorem pay23_id (z : Vec Ideal S128x1024 .bf16) : k0_pay23 (F := Ideal) z = z := by
  funext w; pointwise [k0_pay23]
theorem pay24_id (z : Vec Ideal S128x1024 .bf16) : k0_pay24 (F := Ideal) z = z := by
  funext w; pointwise [k0_pay24]
theorem pay25_id (z : Vec Ideal S128x1024 .bf16) : k0_pay25 (F := Ideal) z = z := by
  funext w; pointwise [k0_pay25]
theorem pay26_id (z : Vec Ideal S128x1024 .bf16) : k0_pay26 (F := Ideal) z = z := by
  funext w; pointwise [k0_pay26]

/-- A load of one head's query block, at an index of the staged queries. -/
theorem rdq (u : View sig .tc .vmem S512x1024 .bf16) (X : u.ty.Contents (Elt Ideal)) (o p : ℕ) (inb)
    (y : S256x4096.Idx) (ho : o + 128 ≤ 512) (hp : p = o / 128 * 1024) (h) (he : (y 1).val / 1024 * 128 = o)
    (c0 : (y 0).val < 128) :
    u.readAt (Elt Ideal) (Rect.unit (s := S512x1024) ![o, 0] ![128, 1024] inb).toLoadRect X
      (Rect.unitLocal (s := S256x4096) (off := ![0, p]) (size := ![128, 1024]) y h)
      = u.read (Elt Ideal) X (ix2 (Fin.ofNat 512 ((y 1).val / 1024 * 128 + (y 0).val)) (Fin.ofNat 1024 ((y 1).val % 1024))) := by
  have y1 : (y 1).val < 4096 := (y 1).isLt
  refine congrArg (u.read (Elt Ideal) X) (funext fun a => Fin.ext ?_)
  match a with
  | ⟨0, _⟩ =>
    show o + 1 * ((y 0).val - 0) = ((y 1).val / 1024 * 128 + (y 0).val) % 512
    omega
  | ⟨1, _⟩ =>
    show 0 + 1 * ((y 1).val - p) = ((y 1).val % 1024) % 1024
    omega

/-- The staged queries read back whole: four query blocks side by side over the row of the bound. -/
theorem qs_cov (v : View sig .tc .vmem S256x4096 .bf16) (u : View sig .tc .vmem S512x1024 .bf16)
    (X : u.ty.Contents (Elt Ideal)) (x0 : Vec Ideal S1x1 .f32) (b : Elt Ideal .f32) (hb : b = x0 (ix2 0 0))
    (x1 : Vec Ideal S512x1024 .bf16) (hx : u.read (Elt Ideal) X = x1) (i1 i2 i3 i4 i5 i6 j2 j3 j4 j5) :
    v.readCov (Val := Elt Ideal)
      [⟨Rect.unit (s := S256x4096) ![128, 0] S128x4096.size i1, k0_pay27 (F := Ideal) b⟩,
       ⟨Rect.unit (s := S256x4096) ![0, 3072] S128x1024.size i2, k0_pay26 (F := Ideal) (u.readAt (Elt Ideal) (Rect.unit (s := S512x1024) ![384, 0] S128x1024.size j2).toLoadRect X)⟩,
       ⟨Rect.unit (s := S256x4096) ![0, 2048] S128x1024.size i3, k0_pay25 (F := Ideal) (u.readAt (Elt Ideal) (Rect.unit (s := S512x1024) ![256, 0] S128x1024.size j3).toLoadRect X)⟩,
       ⟨Rect.unit (s := S256x4096) ![0, 1024] S128x1024.size i4, k0_pay24 (F := Ideal) (u.readAt (Elt Ideal) (Rect.unit (s := S512x1024) ![128, 0] S128x1024.size j4).toLoadRect X)⟩,
       ⟨Rect.unit (s := S256x4096) ![0, 0] S128x1024.size i5, k0_pay23 (F := Ideal) (u.readAt (Elt Ideal) (Rect.unit (s := S512x1024) ![0, 0] S128x1024.size j5).toLoadRect X)⟩]
      (Rect.unit (s := S256x4096) ![0, 0] S256x4096.size i6).toLoadRect = QS x0 x1 := by
  subst hb hx
  refine (View.readAt_full v _ i6).trans ?_
  funext y
  have y0 : (y 0).val < 256 := (y 0).isLt
  have y1 : (y 1).val < 4096 := (y 1).isLt
  unfold QS
  by_cases c0 : (y 0).val < 128
  · rw [if_pos c0, View.read_writes_cons_unit v _ i1 _ _ y rfl, dif_neg (fun h => by have := (h 0).1; simp at this; omega)]
    rcases (by omega : (y 1).val / 1024 = 0 ∨ (y 1).val / 1024 = 1 ∨ (y 1).val / 1024 = 2 ∨ (y 1).val / 1024 = 3) with k | k | k | k
    · rw [View.read_writes_cons_unit v _ i2 _ _ y rfl, dif_neg (fun h => by have := (h 1).1; simp at this; omega)]
      rw [View.read_writes_cons_unit v _ i3 _ _ y rfl, dif_neg (fun h => by have := (h 1).1; simp at this; omega)]
      rw [View.read_writes_cons_unit v _ i4 _ _ y rfl, dif_neg (fun h => by have := (h 1).1; simp at this; omega)]
      rw [View.read_writes_cons_unit v _ i5 _ _ y rfl, dif_pos (Fin.forall_fin_two.2 ⟨⟨Nat.zero_le _, by simpa using c0⟩, ⟨by first | (simp; done) | (simp; omega), by first | (simp; done) | (simp; omega)⟩⟩), pay23_id]
      exact rdq u X 0 0 j5 y (by omega) (by omega) _ (by omega) c0
    · rw [View.read_writes_cons_unit v _ i2 _ _ y rfl, dif_neg (fun h => by have := (h 1).1; simp at this; omega)]
      rw [View.read_writes_cons_unit v _ i3 _ _ y rfl, dif_neg (fun h => by have := (h 1).1; simp at this; omega)]
      rw [View.read_writes_cons_unit v _ i4 _ _ y rfl, dif_pos (Fin.forall_fin_two.2 ⟨⟨Nat.zero_le _, by simpa using c0⟩, ⟨by first | (simp; done) | (simp; omega), by first | (simp; done) | (simp; omega)⟩⟩), pay24_id]
      exact rdq u X 128 1024 j4 y (by omega) (by omega) _ (by omega) c0
    · rw [View.read_writes_cons_unit v _ i2 _ _ y rfl, dif_neg (fun h => by have := (h 1).1; simp at this; omega)]
      rw [View.read_writes_cons_unit v _ i3 _ _ y rfl, dif_pos (Fin.forall_fin_two.2 ⟨⟨Nat.zero_le _, by simpa using c0⟩, ⟨by first | (simp; done) | (simp; omega), by first | (simp; done) | (simp; omega)⟩⟩), pay25_id]
      exact rdq u X 256 2048 j3 y (by omega) (by omega) _ (by omega) c0
    · rw [View.read_writes_cons_unit v _ i2 _ _ y rfl, dif_pos (Fin.forall_fin_two.2 ⟨⟨Nat.zero_le _, by simpa using c0⟩, ⟨by first | (simp; done) | (simp; omega), by first | (simp; done) | (simp; omega)⟩⟩), pay26_id]
      exact rdq u X 384 3072 j2 y (by omega) (by omega) _ (by omega) c0
  · rw [if_neg c0, View.read_writes_cons_unit v _ i1 _ _ y rfl, dif_pos (Fin.forall_fin_two.2 ⟨⟨by simp; omega, by simp; omega⟩, ⟨Nat.zero_le _, by simp; omega⟩⟩)]
    refine (congrArg (k0_pay27 (F := Ideal) (x0 (ix2 0 0))) (?_ : _ = ix2 (⟨(y 0).val - 128, by omega⟩ : Fin 128) (y 1))).trans ?_
    · funext a
      match a with
      | ⟨0, _⟩ => rfl
      | ⟨1, _⟩ => rfl
    refine (pay27_apply _ _ _).trans ?_
    refine if_congr ?_ rfl rfl
    show (y 0).val - 128 = 0 ↔ _
    omega

/-- What the staging buffer then reads. -/
theorem qs_read (v : View sig .tc .vmem S256x4096 .bf16) (u : View sig .tc .vmem S512x1024 .bf16)
    (X : u.ty.Contents (Elt Ideal)) (x0 : Vec Ideal S1x1 .f32) (b : Elt Ideal .f32) (hb : b = x0 (ix2 0 0))
    (x1 : Vec Ideal S512x1024 .bf16) (hx : u.read (Elt Ideal) X = x1) (i1 i2 i3 i4 i5 j2 j3 j4 j5) :
    v.read (Elt Ideal) (v.writes (Elt Ideal) v.junk
      [⟨Rect.unit (s := S256x4096) ![128, 0] ![128, 4096] i1, k0_pay27 (F := Ideal) b⟩,
       ⟨Rect.unit (s := S256x4096) ![0, 3072] ![128, 1024] i2, k0_pay26 (F := Ideal) (u.readAt (Elt Ideal) (Rect.unit (s := S512x1024) ![384, 0] ![128, 1024] j2).toLoadRect X)⟩,
       ⟨Rect.unit (s := S256x4096) ![0, 2048] ![128, 1024] i3, k0_pay25 (F := Ideal) (u.readAt (Elt Ideal) (Rect.unit (s := S512x1024) ![256, 0] ![128, 1024] j3).toLoadRect X)⟩,
       ⟨Rect.unit (s := S256x4096) ![0, 1024] ![128, 1024] i4, k0_pay24 (F := Ideal) (u.readAt (Elt Ideal) (Rect.unit (s := S512x1024) ![128, 0] ![128, 1024] j4).toLoadRect X)⟩,
       ⟨Rect.unit (s := S256x4096) ![0, 0] ![128, 1024] i5, k0_pay23 (F := Ideal) (u.readAt (Elt Ideal) (Rect.unit (s := S512x1024) ![0, 0] ![128, 1024] j5).toLoadRect X)⟩]) = QS x0 x1 :=
  (View.readAt_full v _ (by decide : ∀ a, (![0, 0] : Fin 2 → ℕ) a + S256x4096.size a ≤ S256x4096.size a)).symm.trans
    (qs_cov v u X x0 b hb x1 hx i1 i2 i3 i4 i5 _ j2 j3 j4 j5)

theorem s11 (a b : S1x1.Idx) : a = b :=
  funext fun k => match k with
    | ⟨0, _⟩ => Subsingleton.elim (α := Fin 1) _ _
    | ⟨1, _⟩ => Subsingleton.elim (α := Fin 1) _ _

theorem first_eq (h : 0 < S1x1.numel) : Shape.Idx.first (s := S1x1) h = ix2 0 0 :=
  funext fun a => match a with
    | ⟨0, _⟩ => Subsingleton.elim (α := Fin 1) _ _
    | ⟨1, _⟩ => Subsingleton.elim (α := Fin 1) _ _

/-- A load of key block `n` at its offset. -/
theorem kread (v : View sig .tc .vmem S8192x256 .bf16) (X : v.ty.Contents (Elt Ideal)) (o : ℕ) (inb)
    (ho : o / 512 < 16 ∧ o = 512 * (o / 512)) :
    v.readAt (Elt Ideal) (Rect.unit (s := S8192x256) ![o, 0] ![512, 256] inb).toLoadRect X
      = kc (v.read (Elt Ideal) X) (o / 512) :=
  kc_window _ (o / 512) _ inb (by rw [← ho.2]) ho.1

/-- A load of value block `n` at its offset. -/
theorem vread (v : View sig .tc .vmem S144x8192 .bf16) (X : v.ty.Contents (Elt Ideal)) (o : ℕ) (inb)
    (ho : o / 512 < 16 ∧ o = 512 * (o / 512)) :
    v.readAt (Elt Ideal) (Rect.unit (s := S144x8192) ![0, o] ![128, 512] inb).toLoadRect X
      = vc (v.read (Elt Ideal) X) (o / 512) :=
  vc_window _ (o / 512) _ inb (by rw [← ho.2]) ho.1

/-- The attention block: row `r` and column `128 h + d` is the weighted sum of value channel `d`, divided by the sum
    of the weights, for the query in column `1024 h + r` of the staged queries. -/
def O10 (x0 : Vec Ideal S1x1 .f32) (x1 : Vec Ideal S512x1024 .bf16) (x2 : Vec Ideal S8192x256 .bf16)
    (x3 : Vec Ideal S144x8192 .bf16) : Vec Ideal S1024x512 .bf16 := fun j =>
  Ideal.div (aN x2 x3 (QS x0 x1) 16 (ix2 (Fin.ofNat 128 ((j 1).val % 128)) (Fin.ofNat 4096 ((j 1).val / 128 * 1024 + (j 0).val))))
    (lN x2 (QS x0 x1) 16 (ix2 0 (Fin.ofNat 4096 ((j 1).val / 128 * 1024 + (j 0).val))))

theorem out0_apply (l : FVec Ideal S1x4096 .f32) (a : Vec Ideal S128x4096 .f32) (r : Fin 1024) (d : Fin 128) :
    (k0_pay47 (F := Ideal) l a) (ix2 r d) = Ideal.div (a (ix2 d ⟨0 + r.val, by omega⟩)) (l (ix2 0 ⟨0 + r.val, by omega⟩)) := by
  pointwise! [k0_pay47, k0_pay46]

theorem out1_apply (l : FVec Ideal S1x4096 .f32) (a : Vec Ideal S128x4096 .f32) (r : Fin 1024) (d : Fin 128) :
    (k0_pay48 (F := Ideal) l a) (ix2 r d) = Ideal.div (a (ix2 d ⟨1024 + r.val, by omega⟩)) (l (ix2 0 ⟨1024 + r.val, by omega⟩)) := by
  pointwise! [k0_pay48, k0_pay46]

theorem out2_apply (l : FVec Ideal S1x4096 .f32) (a : Vec Ideal S128x4096 .f32) (r : Fin 1024) (d : Fin 128) :
    (k0_pay49 (F := Ideal) l a) (ix2 r d) = Ideal.div (a (ix2 d ⟨2048 + r.val, by omega⟩)) (l (ix2 0 ⟨2048 + r.val, by omega⟩)) := by
  pointwise! [k0_pay49, k0_pay46]

theorem out3_apply (l : FVec Ideal S1x4096 .f32) (a : Vec Ideal S128x4096 .f32) (r : Fin 1024) (d : Fin 128) :
    (k0_pay1 (F := Ideal) (k0_pay46 l a)) (ix2 r d) = Ideal.div (a (ix2 d ⟨3072 + r.val, by omega⟩)) (l (ix2 0 ⟨3072 + r.val, by omega⟩)) := by
  pointwise! [k0_pay1, k0_pay46]

/-- The four heads' blocks read back whole. -/
theorem out_read (v : View sig .tc .vmem S1024x512 .bf16) (f : v.ty.Contents (Elt Ideal)) (l : FVec Ideal S1x4096 .f32)
    (a : Vec Ideal S128x4096 .f32) (i0 i1 i2 i3) :
    v.read (Elt Ideal) (v.writes (Elt Ideal) f
      [⟨Rect.unit (s := S1024x512) ![0, 384] ![1024, 128] i3, k0_pay1 (F := Ideal) (k0_pay46 l a)⟩,
       ⟨Rect.unit (s := S1024x512) ![0, 256] ![1024, 128] i2, k0_pay49 (F := Ideal) l a⟩,
       ⟨Rect.unit (s := S1024x512) ![0, 128] ![1024, 128] i1, k0_pay48 (F := Ideal) l a⟩,
       ⟨Rect.unit (s := S1024x512) ![0, 0] ![1024, 128] i0, k0_pay47 (F := Ideal) l a⟩])
    = fun j => Ideal.div (a (ix2 (Fin.ofNat 128 ((j 1).val % 128)) (Fin.ofNat 4096 ((j 1).val / 128 * 1024 + (j 0).val))))
        (l (ix2 0 (Fin.ofNat 4096 ((j 1).val / 128 * 1024 + (j 0).val)))) := by
  funext y
  have y0 : (y 0).val < 1024 := (y 0).isLt
  have y1 : (y 1).val < 512 := (y 1).isLt
  rcases (by omega : (y 1).val / 128 = 0 ∨ (y 1).val / 128 = 1 ∨ (y 1).val / 128 = 2 ∨ (y 1).val / 128 = 3) with k | k | k | k
  · rw [View.read_writes_cons_unit v _ i3 _ _ y rfl, dif_neg (fun h => by have := (h 1).1; simp at this; omega)]
    rw [View.read_writes_cons_unit v _ i2 _ _ y rfl, dif_neg (fun h => by have := (h 1).1; simp at this; omega)]
    rw [View.read_writes_cons_unit v _ i1 _ _ y rfl, dif_neg (fun h => by have := (h 1).1; simp at this; omega)]
    rw [View.read_writes_cons_unit v _ i0 _ _ y rfl, dif_pos (Fin.forall_fin_two.2 ⟨⟨Nat.zero_le _, by first | (simp; done) | (simp; omega)⟩, ⟨by first | (simp; done) | (simp; omega), by first | (simp; done) | (simp; omega)⟩⟩)]
    refine (congrArg (k0_pay47 (F := Ideal) l a) (?_ : _ = ix2 (y 0) (⟨(y 1).val - 0, by omega⟩ : Fin 128))).trans ?_
    · funext a
      match a with
      | ⟨0, _⟩ => rfl
      | ⟨1, _⟩ => rfl
    refine (out0_apply l a _ _).trans ?_
    have e1 : (⟨(y 1).val - 0, by omega⟩ : Fin 128) = Fin.ofNat 128 ((y 1).val % 128) := Fin.ext (by show _ = _ % 128 % 128; dsimp only; omega)
    have e2 : (⟨0 + (y 0).val, by omega⟩ : Fin 4096) = Fin.ofNat 4096 ((y 1).val / 128 * 1024 + (y 0).val) :=
      Fin.ext (by show _ = _ % 4096; dsimp only; omega)
    rw [e1, e2]
  · rw [View.read_writes_cons_unit v _ i3 _ _ y rfl, dif_neg (fun h => by have := (h 1).1; simp at this; omega)]
    rw [View.read_writes_cons_unit v _ i2 _ _ y rfl, dif_neg (fun h => by have := (h 1).1; simp at this; omega)]
    rw [View.read_writes_cons_unit v _ i1 _ _ y rfl, dif_pos (Fin.forall_fin_two.2 ⟨⟨Nat.zero_le _, by first | (simp; done) | (simp; omega)⟩, ⟨by first | (simp; done) | (simp; omega), by first | (simp; done) | (simp; omega)⟩⟩)]
    refine (congrArg (k0_pay48 (F := Ideal) l a) (?_ : _ = ix2 (y 0) (⟨(y 1).val - 128, by omega⟩ : Fin 128))).trans ?_
    · funext a
      match a with
      | ⟨0, _⟩ => rfl
      | ⟨1, _⟩ => rfl
    refine (out1_apply l a _ _).trans ?_
    have e1 : (⟨(y 1).val - 128, by omega⟩ : Fin 128) = Fin.ofNat 128 ((y 1).val % 128) := Fin.ext (by show _ = _ % 128 % 128; dsimp only; omega)
    have e2 : (⟨1024 + (y 0).val, by omega⟩ : Fin 4096) = Fin.ofNat 4096 ((y 1).val / 128 * 1024 + (y 0).val) :=
      Fin.ext (by show _ = _ % 4096; dsimp only; omega)
    rw [e1, e2]
  · rw [View.read_writes_cons_unit v _ i3 _ _ y rfl, dif_neg (fun h => by have := (h 1).1; simp at this; omega)]
    rw [View.read_writes_cons_unit v _ i2 _ _ y rfl, dif_pos (Fin.forall_fin_two.2 ⟨⟨Nat.zero_le _, by first | (simp; done) | (simp; omega)⟩, ⟨by first | (simp; done) | (simp; omega), by first | (simp; done) | (simp; omega)⟩⟩)]
    refine (congrArg (k0_pay49 (F := Ideal) l a) (?_ : _ = ix2 (y 0) (⟨(y 1).val - 256, by omega⟩ : Fin 128))).trans ?_
    · funext a
      match a with
      | ⟨0, _⟩ => rfl
      | ⟨1, _⟩ => rfl
    refine (out2_apply l a _ _).trans ?_
    have e1 : (⟨(y 1).val - 256, by omega⟩ : Fin 128) = Fin.ofNat 128 ((y 1).val % 128) := Fin.ext (by show _ = _ % 128 % 128; dsimp only; omega)
    have e2 : (⟨2048 + (y 0).val, by omega⟩ : Fin 4096) = Fin.ofNat 4096 ((y 1).val / 128 * 1024 + (y 0).val) :=
      Fin.ext (by show _ = _ % 4096; dsimp only; omega)
    rw [e1, e2]
  · rw [View.read_writes_cons_unit v _ i3 _ _ y rfl, dif_pos (Fin.forall_fin_two.2 ⟨⟨Nat.zero_le _, by first | (simp; done) | (simp; omega)⟩, ⟨by first | (simp; done) | (simp; omega), by first | (simp; done) | (simp; omega)⟩⟩)]
    refine (congrArg (k0_pay1 (F := Ideal) (k0_pay46 l a)) (?_ : _ = ix2 (y 0) (⟨(y 1).val - 384, by omega⟩ : Fin 128))).trans ?_
    · funext a
      match a with
      | ⟨0, _⟩ => rfl
      | ⟨1, _⟩ => rfl
    refine (out3_apply l a _ _).trans ?_
    have e1 : (⟨(y 1).val - 384, by omega⟩ : Fin 128) = Fin.ofNat 128 ((y 1).val % 128) := Fin.ext (by show _ = _ % 128 % 128; dsimp only; omega)
    have e2 : (⟨3072 + (y 0).val, by omega⟩ : Fin 4096) = Fin.ofNat 4096 ((y 1).val / 128 * 1024 + (y 0).val) :=
      Fin.ext (by show _ = _ % 4096; dsimp only; omega)
    rw [e1, e2]

theorem out_final (x0 : Vec Ideal S1x1 .f32) (x1 : Vec Ideal S512x1024 .bf16) (x2 : Vec Ideal S8192x256 .bf16)
    (x3 : Vec Ideal S144x8192 .bf16) (v : View sig .tc .vmem S1024x512 .bf16) (f : v.ty.Contents (Elt Ideal))
    (l : FVec Ideal S1x4096 .f32) (a : Vec Ideal S128x4096 .f32) (i0 i1 i2 i3)
    (hl : l = lN x2 (QS x0 x1) 16) (ha : a = aN x2 x3 (QS x0 x1) 16) :
    v.read (Elt Ideal) (v.writes (Elt Ideal) f
      [⟨Rect.unit (s := S1024x512) ![0, 384] ![1024, 128] i3, k0_pay1 (F := Ideal) (k0_pay46 l a)⟩,
       ⟨Rect.unit (s := S1024x512) ![0, 256] ![1024, 128] i2, k0_pay49 (F := Ideal) l a⟩,
       ⟨Rect.unit (s := S1024x512) ![0, 128] ![1024, 128] i1, k0_pay48 (F := Ideal) l a⟩,
       ⟨Rect.unit (s := S1024x512) ![0, 0] ![1024, 128] i0, k0_pay47 (F := Ideal) l a⟩]) = O10 x0 x1 x2 x3 := by
  subst hl ha
  exact out_read v f _ _ i0 i1 i2 i3

section
variable (𝒱 : Variants) (c : Dev nD) (bd : Option 𝒱.V) (i : grid0.Coords) (arg2 : Memref sig .tc .smem S1x1 .f32) (harg2 : arg2.IsWhole) (arg3 : Memref sig .tc .vmem S512x1024 .bf16) (harg3 : arg3.IsWhole) (arg4 : Memref sig .tc .vmem S8192x256 .bf16) (harg4 : arg4.IsWhole) (arg5 : Memref sig .tc .vmem S144x8192 .bf16) (harg5 : arg5.IsWhole) (arg6 : Memref sig .tc .vmem S256x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x8192 .f32) (harg10 : arg10.IsWhole) (arg11 : Memref sig .tc .vmem S32x2048 .f32) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S64x8192 .bf16) (harg17 : arg17.IsWhole) (arg18 : Memref sig .tc .vmem S32x2048 .bf16) (harg18 : arg18.IsWhole) (arg19 : Memref sig .tc .vmem S256x4096 .bf16) (harg19 : arg19.IsWhole) (arg20 : Memref sig .tc .vmem S128x4096 .f32) (harg20 : arg20.IsWhole) (arg21 : Memref sig .tc .vmem S512x4096 .bf16) (harg21 : arg21.IsWhole) (arg22 : Memref sig .tc .vmem S512x4096 .bf16) (harg22 : arg22.IsWhole) (v50 : FVec Ideal S1x4096 .f32) (v51 : Vec Ideal S512x256 .bf16) (X4 : BufTy.Contents (Elt Ideal) arg4.view.ty) (X5 : BufTy.Contents (Elt Ideal) arg5.view.ty) (X19 : BufTy.Contents (Elt Ideal) arg19.view.ty) (G22 : BufTy.Contents (Elt Ideal) arg22.view.ty)
  (x : Vec Ideal S8192x256 .bf16) (v : Vec Ideal S144x8192 .bf16) (q : Vec Ideal S256x4096 .bf16)

variable {𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G22 x v q}

/-- The loop's last state: 13 key blocks summed, 12 value blocks accumulated, key block 12's exponentials kept. -/
theorem loop_end (hx : arg4.view.read (Elt Ideal) X4 = x) (hv : arg5.view.read (Elt Ideal) X5 = v)
    (hq : arg19.view.read (Elt Ideal) X19 = q) (n : ℕ) (hn : n = 3) (w1 w2 o1 o2 S)
    (hS : S = st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19
        (arg20.view.writes (Elt Ideal) arg20.view.junk [⟨Rect.unit (s := S128x4096) ![0, 0] S128x4096.size w1, k0_pay28 (F := Ideal)⟩])
        (arg21.view.writes (Elt Ideal) arg21.view.junk [⟨Rect.unit (s := S512x4096) ![0, 0] S512x4096.size w2, k0_pay31 (F := Ideal) (kc x 0) q⟩])
        G22 (k0_pay32 (F := Ideal) k0_pay29 (kc x 0) q) n) :
    S.1 = lN x q 13
    ∧ arg20.view.readCov (Val := Elt Ideal) (S.2.1 ++ [⟨Rect.unit (s := S128x4096) ![0, 0] S128x4096.size w1, k0_pay28 (F := Ideal)⟩])
        (Rect.unit (s := S128x4096) ![0, 0] S128x4096.size o1).toLoadRect = aN x v q 12
    ∧ arg21.view.readCov (Val := Elt Ideal) (S.2.2.1 ++ [⟨Rect.unit (s := S512x4096) ![0, 0] S512x4096.size w2, k0_pay31 (F := Ideal) (kc x 0) q⟩])
        (Rect.unit (s := S512x4096) ![0, 0] S512x4096.size o2).toLoadRect = prb (kc x 12) q := by
  have h := loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19
        (arg20.view.writes (Elt Ideal) arg20.view.junk [⟨Rect.unit (s := S128x4096) ![0, 0] S128x4096.size w1, k0_pay28 (F := Ideal)⟩])
        (arg21.view.writes (Elt Ideal) arg21.view.junk [⟨Rect.unit (s := S512x4096) ![0, 0] S512x4096.size w2, k0_pay31 (F := Ideal) (kc x 0) q⟩])
        G22 (k0_pay32 (F := Ideal) k0_pay29 (kc x 0) q) x v q hx hv hq rfl
        (View.read_writes_full _ _ _ _ _) (View.read_writes_full _ _ _ _ _) n (by omega)
  rw [← hS] at h
  subst hn
  refine ⟨h.1, ?_, ?_⟩
  · exact (View.readAt_full _ _ o1).trans (by rw [View.writes_append]; exact h.2.1)
  · exact (View.readAt_full _ _ o2).trans (by rw [View.writes_append]; exact h.2.2)
end

/-- The last three key blocks summed. -/
theorem tail_l (x : Vec Ideal S8192x256 .bf16) (q : Vec Ideal S256x4096 .bf16) (l : FVec Ideal S1x4096 .f32)
    (h : l = lN x q 13) :
    k0_pay43 (F := Ideal) (k0_pay36 l (kc x 13) q) (kc x 14) q (kc x 15) q = lN x q 16 := by
  subst h; rfl

/-- The last four value blocks accumulated. -/
theorem tail_a (x : Vec Ideal S8192x256 .bf16) (v : Vec Ideal S144x8192 .bf16) (q : Vec Ideal S256x4096 .bf16)
    (a : Vec Ideal S128x4096 .f32) (p : Vec Ideal S512x4096 .bf16) (h : a = aN x v q 12) (hp : p = prb (kc x 12) q) :
    k0_pay45 (F := Ideal) (vc v 15) (k0_pay44 (vc v 14) (k0_pay40 (vc v 13) (k0_pay37 (vc v 12) a p)
      (k0_pay35 (kc x 13) q)) (k0_pay39 (kc x 14) q)) (k0_pay42 (kc x 15) q) = aN x v q 16 := by
  subst h hp; rfl

end Cert.KernelIdeal.Attn

end
-- ==== Proof.AttnRunIdeal.lean ====
/- The run of the whole attention body at one grid point: what it leaves in each output. -/
module

public import proofs.«01_k».proof.Proof.AttnBody

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1000000 in
/-- From its inputs the body runs to its end, the attention block and the six cast weight blocks in its outputs. -/
theorem kernelRun0_A (c : Dev nD) (i : grid0.Coords) (arg2 : Memref sig .tc .smem S1x1 .f32) (harg2 : arg2.IsWhole) (arg3 : Memref sig .tc .vmem S512x1024 .bf16) (harg3 : arg3.IsWhole) (arg4 : Memref sig .tc .vmem S8192x256 .bf16) (harg4 : arg4.IsWhole) (arg5 : Memref sig .tc .vmem S144x8192 .bf16) (harg5 : arg5.IsWhole) (arg6 : Memref sig .tc .vmem S256x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x8192 .f32) (harg10 : arg10.IsWhole) (arg11 : Memref sig .tc .vmem S32x2048 .f32) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S64x8192 .bf16) (harg17 : arg17.IsWhole) (arg18 : Memref sig .tc .vmem S32x2048 .bf16) (harg18 : arg18.IsWhole) (arg19 : Memref sig .tc .vmem S256x4096 .bf16) (harg19 : arg19.IsWhole) (arg20 : Memref sig .tc .vmem S128x4096 .f32) (harg20 : arg20.IsWhole) (arg21 : Memref sig .tc .vmem S512x4096 .bf16) (harg21 : arg21.IsWhole) (arg22 : Memref sig .tc .vmem S512x4096 .bf16) (harg22 : arg22.IsWhole)
    (x0 : Vec Ideal S1x1 .f32) (x1 : Vec Ideal S512x1024 .bf16) (x2 : Vec Ideal S8192x256 .bf16) (x3 : Vec Ideal S144x8192 .bf16) (x4 : Vec Ideal S256x2048 .f32) (x5 : Vec Ideal S64x2048 .f32) (x6 : Vec Ideal S64x2048 .f32) (x7 : Vec Ideal S64x2048 .f32) (x8 : Vec Ideal S64x8192 .f32) (x9 : Vec Ideal S32x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (O10 x0 x1 x2 x3) ∗ owns (c : Thread nD τ) arg13 fullShare (k0_pay17 x4) ∗ owns (c : Thread nD τ) arg14 fullShare (k0_pay18 x5) ∗ owns (c : Thread nD τ) arg15 fullShare (k0_pay19 x6) ∗ owns (c : Thread nD τ) arg16 fullShare (k0_pay20 x7) ∗ owns (c : Thread nD τ) arg17 fullShare (k0_pay21 x8) ∗ owns (c : Thread nD τ) arg18 fullShare (k0_pay22 x9) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := Ideal)) Variants.none c none) E (cc0_gqa_bounded i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_gqa_bounded_eq_skeleton]; unfold cc0_gqa_bounded_skel
    simp only [k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      sl_unfold_words
      rw [qs_cov arg19.view arg3.view (harg3.unread x1) x0 _ ?hb x1 hf1]
      case hb => exact (congrFun hf0 _).trans (congrArg x0 (s11 _ _))
      simp only [rc_full, rd_full, rw_full]
      simp (disch := decide) only [kread, vread, hf2, hf3, Nat.reduceDiv, Nat.zero_div]
      have ht : Scf.trips (0#32) (Scalar.addi 0#32 3#32) 1#32 = 3 := by decide +kernel
      have hloop := loop_end (c := c) (𝒱 := Variants.none) (bd := none) (i := i) (arg2 := arg2) (harg2 := harg2) (arg3 := arg3) (harg3 := harg3) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (arg18 := arg18) (harg18 := harg18) (harg4 := harg4) (harg5 := harg5) (arg19 := arg19) (harg19 := harg19) (arg20 := arg20) (harg20 := harg20) (arg21 := arg21) (harg21 := harg21) (arg22 := arg22) (harg22 := harg22) (v50 := k0_pay29) (v51 := kc x2 0) (G22 := fs3) hf2 hf3
        (qs_read arg19.view arg3.view (harg3.unread x1) x0 (View.read (Elt Ideal) arg2.view (harg2.unread x0) (Shape.Idx.first (by decide)))
          ((congrFun hf0 _).trans (congrArg x0 (first_eq _))) x1 hf1
          inb_S256x4096_S128x4096_128_0 inb_S256x4096_S128x1024_0_3072 inb_S256x4096_S128x1024_0_2048 inb_S256x4096_S128x1024_0_1024 inb_S256x4096_S128x1024_0_0
          inb_S512x1024_S128x1024_384_0 inb_S512x1024_S128x1024_256_0 inb_S512x1024_S128x1024_128_0 inb_S512x1024_S128x1024_0_0)
        _ ht inb_S128x4096_S128x4096_0_0 inb_S512x4096_S512x4096_0_0 inb_S128x4096_S128x4096_0_0 inb_S512x4096_S512x4096_0_0 _ rfl
      exact out_final x0 x1 x2 x3 arg12.view _ _ _ _ _ _ _ (tail_l _ _ _ hloop.1) (tail_a _ _ _ _ _ hloop.2.1 hloop.2.2)
    isplitl [H11]
    · iexists _; isplitr; swap; · iexact H11
      ipureintro
      sl_unfold_words; first | (simp only [rw_full, rd_full]; done) | (simp only [rw_full, rd_full, hf4,hf5,hf6,hf7,hf8,hf9]; done)
    isplitl [H12]
    · iexists _; isplitr; swap; · iexact H12
      ipureintro
      sl_unfold_words; first | (simp only [rw_full, rd_full]; done) | (simp only [rw_full, rd_full, hf4,hf5,hf6,hf7,hf8,hf9]; done)
    isplitl [H13]
    · iexists _; isplitr; swap; · iexact H13
      ipureintro
      sl_unfold_words; first | (simp only [rw_full, rd_full]; done) | (simp only [rw_full, rd_full, hf4,hf5,hf6,hf7,hf8,hf9]; done)
    isplitl [H14]
    · iexists _; isplitr; swap; · iexact H14
      ipureintro
      sl_unfold_words; first | (simp only [rw_full, rd_full]; done) | (simp only [rw_full, rd_full, hf4,hf5,hf6,hf7,hf8,hf9]; done)
    isplitl [H15]
    · iexists _; isplitr; swap; · iexact H15
      ipureintro
      sl_unfold_words; first | (simp only [rw_full, rd_full]; done) | (simp only [rw_full, rd_full, hf4,hf5,hf6,hf7,hf8,hf9]; done)
    isplitl [H16]
    · iexists _; isplitr; swap; · iexact H16
      ipureintro
      sl_unfold_words; first | (simp only [rw_full, rd_full]; done) | (simp only [rw_full, rd_full, hf4,hf5,hf6,hf7,hf8,hf9]; done)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Attn

end
-- ==== Proof.AttnFrame.lean ====
/- The attention kernel run point by point: what each output block holds after a point, and the whole run. -/
module

public import proofs.«01_k».proof.Proof.AttnRunIdeal
public import proofs.«01_k».proof.Proof.Gen.KernelIdeal.Frame.Runs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The proof data of the one pipeline on core `c`: the arrays as the region finds them (`V`); after the body at
    point `t` each input's buffer at its block and the outputs' at their values; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => O10 (iblk m c 0 t) (iblk m c 1 t) (iblk m c 2 t) (iblk m c 3 t)
    | ⟨11, _⟩ => k0_pay17 (F := Ideal) (iblk m c 4 t)
    | ⟨12, _⟩ => k0_pay18 (F := Ideal) (iblk m c 5 t)
    | ⟨13, _⟩ => k0_pay19 (F := Ideal) (iblk m c 6 t)
    | ⟨14, _⟩ => k0_pay20 (F := Ideal) (iblk m c 7 t)
    | ⟨15, _⟩ => k0_pay21 (F := Ideal) (iblk m c 8 t)
    | ⟨16, _⟩ => k0_pay22 (F := Ideal) (iblk m c 9 t)
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = O10 (iblk m c 0 t) (iblk m c 1 t) (iblk m c 2 t) (iblk m c 3 t) := by dsimp only [dats]
theorem after0_11 (c : Dev nD) (t : Fin cfg0.N) : (dats m 0 c).after 11 t = k0_pay17 (F := Ideal) (iblk m c 4 t) := by dsimp only [dats]
theorem after0_12 (c : Dev nD) (t : Fin cfg0.N) : (dats m 0 c).after 12 t = k0_pay18 (F := Ideal) (iblk m c 5 t) := by dsimp only [dats]
theorem after0_13 (c : Dev nD) (t : Fin cfg0.N) : (dats m 0 c).after 13 t = k0_pay19 (F := Ideal) (iblk m c 6 t) := by dsimp only [dats]
theorem after0_14 (c : Dev nD) (t : Fin cfg0.N) : (dats m 0 c).after 14 t = k0_pay20 (F := Ideal) (iblk m c 7 t) := by dsimp only [dats]
theorem after0_15 (c : Dev nD) (t : Fin cfg0.N) : (dats m 0 c).after 15 t = k0_pay21 (F := Ideal) (iblk m c 8 t) := by dsimp only [dats]
theorem after0_16 (c : Dev nD) (t : Fin cfg0.N) : (dats m 0 c).after 16 t = k0_pay22 (F := Ideal) (iblk m c 9 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- Every execution ends, with the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Attn

end
-- ==== Proof.AttnRef.lean ====
/-
  The reference attention entry by entry: softmax-weighted sums of the values.
-/
module

public import proofs.«01_k».proof.Proof.Gen.ReferenceIdeal.Run
public import Idealize.ShloMosaic.Lib.Pointwise

@[expose] public section

set_option maxRecDepth 16384

noncomputable section

namespace Cert.ReferenceIdeal.Ref

open Cert.ReferenceIdeal Cert.ReferenceIdeal.Gen Idealize.ShloMosaic Idealize.ShloMosaic.TcCoe Idealize.SL.Sem Idealize.ShloMosaic.StableHlo

/-- The scores: products of queries and keys, times `ln 2`. -/
def SC (X1 : FVec Ideal S2048x8192 .bf16) (X2 : FVec Ideal S8192x1024 .bf16) : FVec Ideal S4x4x8192x8192 .f32 :=
  mulf (Host.dotGeneral dot_S4x4x128x8192_S8192x4x128_S4x4x8192x8192_2_2_13_0_0_1 none (shapeCast _ (extf .f32 X1 bitsLt_bf16_f32) shapeCasts_S2048x8192_S4x4x128x8192) (extractStridedSlice S8192x4x128 ![0, 0, 0] (shapeCast _ (extf .f32 X2 bitsLt_bf16_f32) shapeCasts_S8192x1024_S8192x4x256) slices_S8192x4x256_S8192x4x128_0_0_0)) (broadcastInDim S4x4x8192x8192 ![] bcast_S_S4x4x8192x8192 (Host.log (constant S_ .f32 0x40000000#32)))

/-- The largest score of each query. -/
def RM (X1 : FVec Ideal S2048x8192 .bf16) (X2 : FVec Ideal S8192x1024 .bf16) : FVec Ideal S4x4x8192 .f32 :=
  Host.reduce FloatOps.maximumf (SC X1 X2) (constant S_ .f32 0xFF800000#32) reducesTo_S4x4x8192x8192_S4x4x8192_d3 h_S_

/-- The same, at least the least value. -/
def MX (X1 : FVec Ideal S2048x8192 .bf16) (X2 : FVec Ideal S8192x1024 .bf16) : FVec Ideal S4x4x8192 .f32 :=
  maximumf (broadcastInDim S4x4x8192 ![] bcast_S_S4x4x8192 (constant S_ .f32 0xFF800000#32)) (RM X1 X2)

/-- The unnormalised weights. -/
def PE (X1 : FVec Ideal S2048x8192 .bf16) (X2 : FVec Ideal S8192x1024 .bf16) : FVec Ideal S4x4x8192x8192 .f32 :=
  Host.exp (subf (SC X1 X2) (broadcastInDim S4x4x8192x8192 ![0, 1, 2, 3] bcast_S4x4x8192x1_S4x4x8192x8192_0_1_2_3 (broadcastInDim S4x4x8192x1 ![0, 1, 2] bcast_S4x4x8192_S4x4x8192x1_0_1_2 (MX X1 X2))))

/-- The weights. -/
def PR (X1 : FVec Ideal S2048x8192 .bf16) (X2 : FVec Ideal S8192x1024 .bf16) : FVec Ideal S4x4x8192x8192 .f32 :=
  Host.divf (PE X1 X2) (broadcastInDim S4x4x8192x8192 ![0, 1, 2, 3] bcast_S4x4x8192x1_S4x4x8192x8192_0_1_2_3 (broadcastInDim S4x4x8192x1 ![0, 1, 2] bcast_S4x4x8192_S4x4x8192x1_0_1_2 (Host.reduceAdd (PE X1 X2) (constant S_ .f32 0x00000000#32) reducesTo_S4x4x8192x8192_S4x4x8192_d3 h_S_)))

/-- The reference attention, of its queries, keys and values. -/
def REF (X1 : FVec Ideal S2048x8192 .bf16) (X2 : FVec Ideal S8192x1024 .bf16) (X3 : FVec Ideal S576x8192 .bf16) : FVec Ideal S8192x2048 .bf16 :=
  truncf .bf16 (shapeCast _ (transpose S8192x4x4x128 [3, 0, 2, 1] (Host.dotGeneral dot_S4x128x8192_S4x4x8192x8192_S4x128x4x8192_2_3_1_12_0_0 none (extractStridedSlice S4x128x8192 ![0, 0, 0] (shapeCast _ (extf .f32 X3 bitsLt_bf16_f32) shapeCasts_S576x8192_S4x144x8192) slices_S4x144x8192_S4x128x8192_0_0_0) (PR X1 X2)) transposes_S4x128x4x8192_S8192x4x4x128_3_0_2_1) shapeCasts_S8192x4x4x128_S8192x2048) bitsLt_bf16_f32

/-- The score of key `s` against the query of head `4 g + h` at token `t`. -/
def zz (X1 : FVec Ideal S2048x8192 .bf16) (X2 : FVec Ideal S8192x1024 .bf16) (g h : Fin 4) (t s : Fin 8192) : EReal :=
  (∑ r : Fin 128, X1 (ix2 ⟨g.val * 512 + h.val * 128 + r.val, by omega⟩ t) * X2 (ix2 s ⟨g.val * 256 + r.val, by omega⟩))

theorem sc_apply (X1 : FVec Ideal S2048x8192 .bf16) (X2 : FVec Ideal S8192x1024 .bf16) (g h : Fin 4) (t s : Fin 8192) :
    SC X1 X2 (ix4 g h t s) = zz X1 X2 g h t s * Ideal.log (Ideal.ofBits .f32 0x40000000#32) := by
  unfold zz
  pointwise [SC]

/-- A maximum of real numbers along a nonempty axis is a real number. -/
theorem reduce_max_real {sh t u : Shape} {a : Fin sh.rank} (x : FVec Ideal sh .f32) (init : FVec Ideal u .f32)
    (h' : sh.ReducesTo [a] t) (h : sh.Reduces [a] t) (hu : 0 < u.numel) (hi : init (Shape.Idx.first hu) = (⊥ : EReal))
    (ha : 0 < sh.size a) (hx : ∀ i, ∃ r : ℝ, x i = (r : EReal)) (j : t.Idx) :
    ∃ r : ℝ, Host.reduce FloatOps.maximumf x init h' hu j = (r : EReal) := by
  rw [Host.reduce_eq_fold_single FloatOps.maximumf x init h' h hu j, hi]
  have key : ∀ S : Finset (Fin (sh.size a)), S.Nonempty → ∃ r : ℝ,
      S.fold (FloatOps.maximumf (F := Ideal) (φ := .f32)) (⊥ : EReal) (x ∘ h.lift j) = (r : EReal) := by
    intro S hS
    induction hS using Finset.Nonempty.cons_induction with
    | singleton k =>
      obtain ⟨r, hr⟩ := hx (h.lift j k)
      refine ⟨r, ?_⟩
      rw [Finset.fold_singleton]
      show max (x (h.lift j k)) ⊥ = _
      rw [hr]; exact max_eq_left bot_le
    | cons k S hk hS ih =>
      obtain ⟨r, hr⟩ := hx (h.lift j k)
      obtain ⟨r', hr'⟩ := ih
      refine ⟨max r r', ?_⟩
      rw [Finset.fold_cons, hr']
      show max (x (h.lift j k)) _ = _
      rw [hr]; exact (EReal.coe_strictMono.monotone.map_max (a := r) (b := r')).symm
  exact key _ ⟨⟨0, ha⟩, Finset.mem_univ _⟩

theorem neg_inf : Ideal.ofBits .f32 0xFF800000#32 = (⊥ : EReal) := by simp [Ideal.ofBits, Ideal.ieee]

theorem two : Ideal.ofBits .f32 0x40000000#32 = ((2 : ℝ) : EReal) := by
  simp [Ideal.ofBits, Ideal.ieee]
  rw [← EReal.coe_mul]
  norm_num

theorem red : S4x4x8192x8192.Reduces [3] S4x4x8192 := by decide

theorem rm_real (X1 : FVec Ideal S2048x8192 .bf16) (X2 : FVec Ideal S8192x1024 .bf16) (hs : ∀ i, ∃ r : ℝ, SC X1 X2 i = (r : EReal)) (j : S4x4x8192.Idx) :
    ∃ r : ℝ, RM X1 X2 j = (r : EReal) :=
  reduce_max_real (SC X1 X2) (constant S_ .f32 0xFF800000#32) reducesTo_S4x4x8192x8192_S4x4x8192_d3
    red h_S_ neg_inf (by decide) hs j

/-- The larger of the least value and a value is that value, elementwise. -/
theorem least_max {s : Shape} (D : FVec Ideal s .f32) (W : FVec Ideal s .f32) (j : s.Idx) (hD : D j = (⊥ : EReal)) :
    maximumf D W j = W j := by
  rw [ValueIdx.maximumf_apply, hD]
  exact max_eq_right bot_le

theorem least_at (j : S4x4x8192.Idx) :
    (broadcastInDim S4x4x8192 ![] bcast_S_S4x4x8192 (constant S_ .f32 0xFF800000#32 : FVec Ideal S_ .f32) : FVec Ideal S4x4x8192 .f32) j = (⊥ : EReal) := neg_inf

/-- Where every score is a real number, so is the largest of a query's scores. -/
theorem mx_real (X1 : FVec Ideal S2048x8192 .bf16) (X2 : FVec Ideal S8192x1024 .bf16) (hs : ∀ i, ∃ r : ℝ, SC X1 X2 i = (r : EReal)) (g h : Fin 4) (t : Fin 8192) :
    ∃ r : ℝ, MX X1 X2 (ix3 g h t) = (r : EReal) := by
  obtain ⟨r, hr⟩ := rm_real X1 X2 hs (ix3 g h t)
  exact ⟨r, (least_max _ (RM X1 X2) (ix3 g h t) (least_at _)).trans hr⟩

theorem pe_apply (X1 : FVec Ideal S2048x8192 .bf16) (X2 : FVec Ideal S8192x1024 .bf16) (g h : Fin 4) (t s : Fin 8192) :
    PE X1 X2 (ix4 g h t s) = Ideal.exp (SC X1 X2 (ix4 g h t s) - MX X1 X2 (ix3 g h t)) := by
  pointwise [PE]

theorem pr_apply (X1 : FVec Ideal S2048x8192 .bf16) (X2 : FVec Ideal S8192x1024 .bf16) (g h : Fin 4) (t s : Fin 8192) :
    PR X1 X2 (ix4 g h t s) = Ideal.div (PE X1 X2 (ix4 g h t s)) (∑ u : Fin 8192, PE X1 X2 (ix4 g h t u)) := by
  pointwise [PR]

/-- The reference attention at token `t` and channel `d` of head `4 g + h`. -/
theorem ref_apply (X1 : FVec Ideal S2048x8192 .bf16) (X2 : FVec Ideal S8192x1024 .bf16) (X3 : FVec Ideal S576x8192 .bf16)
    (t : Fin 8192) (g : Fin 4) (h : Fin 4) (d : Fin 128) :
    REF X1 X2 X3 (ix2 t ⟨(g.val * 4 + h.val) * 128 + d.val, by omega⟩) =
      ∑ s : Fin 8192, X3 (ix2 ⟨g.val * 144 + d.val, by omega⟩ s) * PR X1 X2 (ix4 g h t s) := by
  pointwise [REF]

end Cert.ReferenceIdeal.Ref
-- ==== Proof.AttnMath.lean ====
/-
  Weighted means of extended reals: scaling every weight by one positive number changes nothing, so a softmax
  taken in base two from a given bound is the softmax taken in base e from the largest score.
-/
module

public import Idealize.ShloMosaic.Lib.Pointwise

@[expose] public section

noncomputable section

namespace AttnMath

open Idealize.ShloMosaic

/-- A finite sum of extended reals times a nonnegative real, term by term. -/
theorem sum_mul_coe {n : ℕ} (u : Fin n → EReal) (r : ℝ) (hr : 0 ≤ r) (S : Finset (Fin n)) :
    (∑ s ∈ S, u s) * (r : EReal) = ∑ s ∈ S, u s * (r : EReal) := by
  induction S using Finset.induction_on with
  | empty => simp
  | insert a S ha ih =>
    rw [Finset.sum_insert ha, Finset.sum_insert ha, ← ih]
    exact EReal.right_distrib_of_nonneg_of_ne_top (EReal.coe_nonneg.2 hr) (EReal.coe_ne_top r) _ _

theorem coe_sum {n : ℕ} (f : Fin n → ℝ) (S : Finset (Fin n)) :
    ∑ s ∈ S, (f s : EReal) = ((∑ s ∈ S, f s : ℝ) : EReal) := by
  induction S using Finset.induction_on with
  | empty => simp
  | insert a S ha ih => rw [Finset.sum_insert ha, Finset.sum_insert ha, ih, EReal.coe_add]

/-- The mean with weights `e` is the mean with the proportional, normalised weights `f`. -/
theorem mean_eq {n : ℕ} (hn : 0 < n) (v : Fin n → EReal) (e f : Fin n → ℝ) (c : ℝ) (hc : 0 < c)
    (hf : ∀ s, 0 < f s) (he : ∀ s, e s = c * f s) :
    Ideal.div (∑ s, v s * (e s : EReal)) (∑ s, (e s : EReal))
      = ∑ s, v s * Ideal.div (f s : EReal) (∑ u, (f u : EReal)) := by
  have hne : (Finset.univ : Finset (Fin n)).Nonempty := ⟨⟨0, hn⟩, Finset.mem_univ _⟩
  have hF : 0 < ∑ s, f s := Finset.sum_pos (fun s _ => hf s) hne
  have hE : ∑ s, e s = c * ∑ s, f s := by rw [Finset.mul_sum]; exact Finset.sum_congr rfl fun s _ => he s
  have hL : 0 < ∑ s, e s := by rw [hE]; exact mul_pos hc hF
  rw [coe_sum, coe_sum, Ideal.div_coe hL.ne', sum_mul_coe _ _ (by positivity)]
  refine Finset.sum_congr rfl fun s _ => ?_
  rw [Ideal.div_coe hF.ne', mul_assoc, ← EReal.coe_mul, ← EReal.coe_mul]
  congr 2
  rw [hE, he s]
  field_simp

/-- The base-two softmax from the bound `b` is the base-e softmax from `M`. -/
theorem softmax_eq {n : ℕ} (hn : 0 < n) (v : Fin n → EReal) (z : Fin n → ℝ) (b M : ℝ) :
    Ideal.div (∑ s, v s * Ideal.exp2 ((z s : EReal) + ((0 : EReal) - (b : EReal)))) (∑ s, Ideal.exp2 ((z s : EReal) + ((0 : EReal) - (b : EReal))))
      = ∑ s, v s * Ideal.div (Ideal.exp ((z s : EReal) * Ideal.log ((2 : ℝ) : EReal) - (M : EReal)))
          (∑ u, Ideal.exp ((z u : EReal) * Ideal.log ((2 : ℝ) : EReal) - (M : EReal))) := by
  have hl : Ideal.log ((2 : ℝ) : EReal) = ((Real.log 2 : ℝ) : EReal) := by
    rw [Ideal.log_coe, if_neg (by norm_num)]
  have h2 : ∀ s, Ideal.exp2 ((z s : EReal) + ((0 : EReal) - (b : EReal))) = ((Real.exp ((z s - b) * Real.log 2) : ℝ) : EReal) := by
    intro s
    rw [zero_sub, ← EReal.coe_neg, ← EReal.coe_add, Ideal.exp2_coe]
    congr 1
    show (2 : ℝ) ^ (z s + -b) = _
    rw [Real.rpow_def_of_pos (by norm_num)]
    congr 1; ring
  have he : ∀ s, Ideal.exp ((z s : EReal) * Ideal.log ((2 : ℝ) : EReal) - (M : EReal)) = ((Real.exp (z s * Real.log 2 - M) : ℝ) : EReal) := by
    intro s
    rw [hl, ← EReal.coe_mul, ← EReal.coe_sub, Ideal.exp_coe]
  simp only [h2, he]
  refine mean_eq hn v _ _ (Real.exp (M - b * Real.log 2)) (Real.exp_pos _) (fun s => Real.exp_pos _) fun s => ?_
  rw [← Real.exp_add]
  congr 1; ring

end AttnMath

end
-- ==== Proof.AttnValue.lean ====
/- One block of the attention kernel is the same block of the reference attention. -/
module

public import proofs.«01_k».proof.Proof.AttnBody
public import proofs.«01_k».proof.Proof.AttnRef
public import proofs.«01_k».proof.Proof.AttnMath

@[expose] public section

set_option maxRecDepth 16384

noncomputable section

namespace Cert.AttnValue
open Idealize.ShloMosaic Cert.KernelIdeal
open Cert.KernelIdeal.Attn (QS O10 E lN aN lN_16 aN_16)
open Cert.ReferenceIdeal.Ref (REF SC MX PE PR zz)

section
variable (X0 : FVec Ideal S1x1 .f32) (X1 : FVec Ideal S2048x8192 .bf16) (X2 : FVec Ideal S8192x1024 .bf16) (X3 : FVec Ideal S576x8192 .bf16)
  (x0 : Vec Ideal S1x1 .f32) (x1 : Vec Ideal S512x1024 .bf16) (x2 : Vec Ideal S8192x256 .bf16) (x3 : Vec Ideal S144x8192 .bf16)

theorem qs_low (h : Fin 4) (r : Fin 1024) (k : Fin 128) :
    QS x0 x1 (ix2 (⟨k.val, by omega⟩ : Fin 256) (⟨h.val * 1024 + r.val, by omega⟩ : Fin 4096)) =
      x1 (ix2 (⟨h.val * 128 + k.val, by omega⟩ : Fin 512) r) := by
  unfold QS
  rw [if_pos (show ((ix2 (⟨k.val, by omega⟩ : Fin 256) (⟨h.val * 1024 + r.val, by omega⟩ : Fin 4096) : S256x4096.Idx) 0).val < 128 from k.isLt)]
  congr 1
  have e1 : (h.val * 1024 + r.val) / 1024 = h.val := by omega
  have e2 : (h.val * 1024 + r.val) % 1024 = r.val := by omega
  congr 1
  · apply Fin.ext
    show ((h.val * 1024 + r.val) / 1024 * 128 + k.val) % 512 = h.val * 128 + k.val
    omega
  · apply Fin.ext
    show ((h.val * 1024 + r.val) % 1024) % 1024 = r.val
    omega

theorem qs_high (y : Fin 4096) (k : Fin 128) :
    QS x0 x1 (ix2 (⟨128 + k.val, by omega⟩ : Fin 256) y) = if k.val = 0 then (0 : EReal) - x0 (ix2 0 0) else (0 : EReal) := by
  unfold QS
  rw [if_neg (show ¬ ((ix2 (⟨128 + k.val, by omega⟩ : Fin 256) y : S256x4096.Idx) 0).val < 128 from by show ¬ (128 + k.val < 128); omega)]
  by_cases hk : k.val = 0
  · rw [if_pos hk]
    exact if_pos (show 128 + k.val = 128 by omega)
  · rw [if_neg hk]
    exact if_neg (show ¬ 128 + k.val = 128 by omega)

/-- A score of the kernel: the product of query and key, less the bound. -/
theorem score (g : Fin 4) (h : Fin 4) (i : Fin 8) (r : Fin 1024) (s : Fin 8192)
    (h0 : x0 (ix2 0 0) = X0 (ix2 0 0))
    (h1 : ∀ (a : Fin 512) (b : Fin 1024), x1 (ix2 a b) = X1 (ix2 ⟨g.val * 512 + a.val, by omega⟩ ⟨i.val * 1024 + b.val, by omega⟩))
    (h2 : ∀ (a : Fin 8192) (b : Fin 256), x2 (ix2 a b) = X2 (ix2 a ⟨g.val * 256 + b.val, by omega⟩))
    (hone : X2 (ix2 s ⟨g.val * 256 + 128, by omega⟩) = ((1 : ℝ) : EReal)) :
    E x2 (QS x0 x1) s ⟨h.val * 1024 + r.val, by omega⟩
      = Ideal.exp2 (zz X1 X2 g h ⟨i.val * 1024 + r.val, by omega⟩ s + ((0 : EReal) - X0 (ix2 0 0))) := by
  unfold E
  congr 1
  rw [Fin.sum_univ_two_halves 128 128 rfl]
  congr 1
  · unfold zz
    refine Finset.sum_congr rfl fun k _ => ?_
    rw [qs_low, h1, h2, mul_comm]
    have e : g.val * 512 + (h.val * 128 + k.val) = g.val * 512 + h.val * 128 + k.val := by omega
    simp only [e]
  · rw [Finset.sum_eq_single (0 : Fin 128)]
    · rw [qs_high, if_pos (show ((0 : Fin 128)).val = 0 from rfl), h2, h0]
      have : X2 (ix2 s ⟨g.val * 256 + 128, by omega⟩) * ((0 : EReal) - X0 (ix2 0 0)) = (0 : EReal) - X0 (ix2 0 0) := by
        rw [hone]; exact one_mul _
      exact this
    · intro k _ hk
      rw [qs_high, if_neg (show ¬ k.val = 0 from fun hz => hk (Fin.ext hz))]
      exact mul_zero _
    · intro hn; exact absurd (Finset.mem_univ _) hn

/-- One entry of a block. -/
theorem block (g : Fin 4) (h : Fin 4) (i : Fin 8) (r : Fin 1024) (d : Fin 128)
    (h0 : x0 (ix2 0 0) = X0 (ix2 0 0))
    (h1 : ∀ (a : Fin 512) (b : Fin 1024), x1 (ix2 a b) = X1 (ix2 ⟨g.val * 512 + a.val, by omega⟩ ⟨i.val * 1024 + b.val, by omega⟩))
    (h2 : ∀ (a : Fin 8192) (b : Fin 256), x2 (ix2 a b) = X2 (ix2 a ⟨g.val * 256 + b.val, by omega⟩))
    (h3 : ∀ (a : Fin 144) (b : Fin 8192), x3 (ix2 a b) = X3 (ix2 ⟨g.val * 144 + a.val, by omega⟩ b))
    (hone : ∀ s, X2 (ix2 s ⟨g.val * 256 + 128, by omega⟩) = ((1 : ℝ) : EReal))
    (hb : ∀ j, ∃ b : ℝ, X0 j = (b : EReal)) (hq : ∀ j, ∃ b : ℝ, X1 j = (b : EReal)) (hk : ∀ j, ∃ b : ℝ, X2 j = (b : EReal)) :
    O10 x0 x1 x2 x3 (ix2 r (⟨h.val * 128 + d.val, by omega⟩ : Fin 512))
      = REF X1 X2 X3 (ix2 (⟨i.val * 1024 + r.val, by omega⟩ : Fin 8192) (⟨(g.val * 4 + h.val) * 128 + d.val, by omega⟩ : Fin 2048)) := by
  obtain ⟨b, hb⟩ := hb (ix2 0 0)
  choose q hq using hq
  choose k hk using hk
  have hz : ∀ (g h : Fin 4) (t s : Fin 8192), ∃ z : ℝ, zz X1 X2 g h t s = (z : EReal) := by
    intro g h t s
    unfold zz
    refine ⟨∑ r : Fin 128, q (ix2 ⟨g.val * 512 + h.val * 128 + r.val, by omega⟩ t) * k (ix2 s ⟨g.val * 256 + r.val, by omega⟩), ?_⟩
    rw [← AttnMath.coe_sum]
    refine Finset.sum_congr rfl fun r _ => ?_
    rw [hq, hk, ← EReal.coe_mul]
  choose z hz using hz
  have hs : ∀ j, ∃ r : ℝ, SC X1 X2 j = (r : EReal) := by
    intro j
    have hj : ∀ (g h : Fin 4) (t s : Fin 8192), ∃ r : ℝ, SC X1 X2 (ix4 g h t s) = (r : EReal) := by
      intro g h t s
      refine ⟨z g h t s * Real.log 2, ?_⟩
      rw [Cert.ReferenceIdeal.Ref.sc_apply, hz, Cert.ReferenceIdeal.Ref.two, Ideal.log_coe, if_neg (by norm_num), EReal.coe_mul]
    rw [ValueIdx.eq_ix4 j]
    exact hj _ _ _ _
  obtain ⟨M, hM⟩ := Cert.ReferenceIdeal.Ref.mx_real X1 X2 hs g h ⟨i.val * 1024 + r.val, by omega⟩
  rw [Cert.ReferenceIdeal.Ref.ref_apply]
  have hy : (Fin.ofNat 4096 ((h.val * 128 + d.val) / 128 * 1024 + r.val)) = (⟨h.val * 1024 + r.val, by omega⟩ : Fin 4096) := by
    apply Fin.ext
    show ((h.val * 128 + d.val) / 128 * 1024 + r.val) % 4096 = h.val * 1024 + r.val
    omega
  have hd : (Fin.ofNat 128 ((h.val * 128 + d.val) % 128)) = d := by
    apply Fin.ext
    show ((h.val * 128 + d.val) % 128) % 128 = d.val
    omega
  have hd' : (Fin.ofNat 144 d.val) = (⟨d.val, by omega⟩ : Fin 144) := by
    apply Fin.ext
    show d.val % 144 = d.val
    omega
  have hO : O10 x0 x1 x2 x3 (ix2 r (⟨h.val * 128 + d.val, by omega⟩ : Fin 512)) =
      Ideal.div (aN x2 x3 (QS x0 x1) 16 (ix2 (Fin.ofNat 128 ((h.val * 128 + d.val) % 128)) (Fin.ofNat 4096 ((h.val * 128 + d.val) / 128 * 1024 + r.val))))
        (lN x2 (QS x0 x1) 16 (ix2 0 (Fin.ofNat 4096 ((h.val * 128 + d.val) / 128 * 1024 + r.val)))) := rfl
  have hE : ∀ s, E x2 (QS x0 x1) s ⟨h.val * 1024 + r.val, by omega⟩
      = Ideal.exp2 ((z g h ⟨i.val * 1024 + r.val, by omega⟩ s : EReal) + ((0 : EReal) - (b : EReal))) := fun s => by
    rw [score X0 X1 X2 x0 x1 x2 g h i r s h0 h1 h2 (hone s), hz, hb]
  have hP : ∀ s, PE X1 X2 (ix4 g h ⟨i.val * 1024 + r.val, by omega⟩ s)
      = Ideal.exp ((z g h ⟨i.val * 1024 + r.val, by omega⟩ s : EReal) * Ideal.log ((2 : ℝ) : EReal) - (M : EReal)) := fun s => by
    rw [Cert.ReferenceIdeal.Ref.pe_apply, hM, Cert.ReferenceIdeal.Ref.sc_apply, hz, Cert.ReferenceIdeal.Ref.two]
  rw [hO, hy, hd, aN_16, lN_16, hd']
  simp only [hE]
  have hv : ∀ s, x3 (ix2 (⟨d.val, by omega⟩ : Fin 144) s) = X3 (ix2 ⟨g.val * 144 + d.val, by omega⟩ s) := fun s => h3 _ s
  simp only [hv]
  refine (AttnMath.softmax_eq (by norm_num) (fun s => X3 (ix2 ⟨g.val * 144 + d.val, by omega⟩ s)) (fun s => z g h ⟨i.val * 1024 + r.val, by omega⟩ s) b M).trans ?_
  refine Finset.sum_congr rfl fun s _ => ?_
  rw [Cert.ReferenceIdeal.Ref.pr_apply]
  simp only [hP]

end
end Cert.AttnValue
-- ==== Proof.AttnPre.lean ====
/- What the precondition of the attention says: the bound, the queries and the keys are real numbers, and
   column 128 of each key group is one. -/
module

public import proofs.«01_k».proof.Defs
public import proofs.«01_k».proof.Proof.Gen.Pre_attention_inputs
public import Idealize.ShloMosaic.PureOps.Ideal.Laws
public import Idealize.ShloMosaic.Lib.Pointwise

@[expose] public section

set_option maxRecDepth 16384

noncomputable section

namespace AttnPre
open Idealize.ShloMosaic Idealize.ShloMosaic.ValueIdx

theorem inf_word : Ideal.ofBits .f32 0x7F800000#32 = ⊤ := by simp [Ideal.ofBits, Ideal.ieee]

theorem one_word : Ideal.ofBits .f32 0x3F800000#32 = ((1 : ℝ) : EReal) := by
  simp [Ideal.ofBits, Ideal.ieee]
  first | done | (rw [← EReal.coe_mul]; norm_num)

/-- A value whose magnitude is below infinity is a real number. -/
theorem real_of_lt (x : EReal) (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

theorem one_of_eq (x : EReal) (h : Ideal.cmp .oeq x (Ideal.ofBits .f32 0x3F800000#32) = 1#1) : x = ((1 : ℝ) : EReal) := by
  rw [one_word] at h
  by_contra hne
  have hd : decide (x = ((1 : ℝ) : EReal)) = false := decide_eq_false hne
  exact absurd h (by show ¬ BitVec.ofBool (decide (x = ((1 : ℝ) : EReal))) = 1#1; rw [hd]; decide)

end AttnPre

namespace Cert.Pre_attention_inputs
open Idealize.ShloMosaic
variable [hF : Facts]
variable (X0 : FVec Ideal S1x1 .f32) (X1 : FVec Ideal S2048x8192 .bf16) (X2 : FVec Ideal S8192x1024 .bf16) (X3 : FVec Ideal S576x8192 .bf16)
  (X4 : FVec Ideal S8192x2048 .f32) (X5 X6 X7 : FVec Ideal S2048x2048 .f32) (X8 : FVec Ideal S2048x8192 .f32) (X9 : FVec Ideal S1024x2048 .f32)

theorem bound_real (h : (fn X0 X1 X2 X3 X4 X5 X6 X7 X8 X9).1 = fun _ => 1#1) (j : S1x1.Idx) : ∃ r : ℝ, X0 j = (r : EReal) :=
  AttnPre.real_of_lt _ (congrFun h j)

theorem query_real (h : (fn X0 X1 X2 X3 X4 X5 X6 X7 X8 X9).2.1 = fun _ => 1#1) (j : S2048x8192.Idx) : ∃ r : ℝ, X1 j = (r : EReal) :=
  AttnPre.real_of_lt _ (congrFun h j)

theorem key_real (h : (fn X0 X1 X2 X3 X4 X5 X6 X7 X8 X9).2.2.1 = fun _ => 1#1) (j : S8192x1024.Idx) : ∃ r : ℝ, X2 j = (r : EReal) :=
  AttnPre.real_of_lt _ (congrFun h j)

/-- Column 128 of group `g`, as the precondition reads it. -/
theorem column (g : Fin 4) (s : Fin 8192) :
    (fn X0 X1 X2 X3 X4 X5 X6 X7 X8 X9).2.2.2 (ix2 s g) = Ideal.cmp .oeq (X2 (ix2 s ⟨g.val * 256 + 128, by omega⟩)) (Ideal.ofBits .f32 0x3F800000#32) := by
  dsimp only [fn]
  pointwise

theorem key_one (h : (fn X0 X1 X2 X3 X4 X5 X6 X7 X8 X9).2.2.2 = fun _ => 1#1) (g : Fin 4) (s : Fin 8192) :
    X2 (ix2 s ⟨g.val * 256 + 128, by omega⟩) = ((1 : ℝ) : EReal) :=
  AttnPre.one_of_eq _ ((column X0 X1 X2 X3 X4 X5 X6 X7 X8 X9 g s).symm.trans (congrFun h (ix2 s g)))

end Cert.Pre_attention_inputs
-- ==== Proof.AttnFinal.lean ====
/- The seven result arrays of the attention kernel are the reference's. -/
module

public import proofs.«01_k».proof.Proof.AttnFrame
public import proofs.«01_k».proof.Proof.AttnValue
public import proofs.«01_k».proof.Proof.AttnPre
public import Idealize.ShloMosaic.Lib.Pipeline.ValueKit

@[expose] public section

set_option maxRecDepth 16384

noncomputable section

namespace Cert.KernelIdeal.Attn
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![t.val / 8, t.val % 8] ∧ win0_2.index t = ![0, t.val / 8]
    ∧ win0_3.index t = ![t.val / 8, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val % 8, t.val / 8]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ t.val < 32 :=
  (by decide +kernel : ∀ t : Fin grid0.N, _)

/-- An array rounded to half precision. -/
abbrev narrow {s : Shape} (X : FVec Ideal s .f32) : FVec Ideal s .bf16 := truncf .bf16 X Gen.bitsLt_bf16_f32

section
variable (c : Dev nD) (t : Fin cfg0.N)

theorem blk0 : iblk m c 0 t (ix2 0 0 : S1x1.Idx) = (m ((c : Thread nD τ).loc main_arg0) : FVec Ideal S1x1 .f32) (ix2 0 0) := by
  blk_point [iblk, V, idx t]

theorem blk1 (a : Fin 512) (b : Fin 1024) : iblk m c 1 t (ix2 a b : S512x1024.Idx) = (m ((c : Thread nD τ).loc main_arg1) : FVec Ideal S2048x8192 .bf16)
    (ix2 ⟨t.val / 8 * 512 + a.val, by have := t.isLt; have e : cfg0.N = 32 := rfl; omega⟩ ⟨t.val % 8 * 1024 + b.val, by omega⟩) := by
  blk_point [iblk, V, idx t]

theorem blk2 (a : Fin 8192) (b : Fin 256) : iblk m c 2 t (ix2 a b : S8192x256.Idx) = (m ((c : Thread nD τ).loc main_arg2) : FVec Ideal S8192x1024 .bf16)
    (ix2 a ⟨t.val / 8 * 256 + b.val, by have := t.isLt; have e : cfg0.N = 32 := rfl; omega⟩) := by
  blk_point [iblk, V, idx t]

theorem blk3 (a : Fin 144) (b : Fin 8192) : iblk m c 3 t (ix2 a b : S144x8192.Idx) = (m ((c : Thread nD τ).loc main_arg3) : FVec Ideal S576x8192 .bf16)
    (ix2 ⟨t.val / 8 * 144 + a.val, by have := t.isLt; have e : cfg0.N = 32 := rfl; omega⟩ b) := by
  blk_point [iblk, V, idx t]

end

/-- The attention array, where the precondition holds. -/
theorem final10 [hP : Cert.Pre_attention_inputs.Facts] (c : Dev nD) (hpre : Pre_KernelIdeal_attention_inputs m) : (dats m 0 c).arrAt 10 (cfgs 0).N
    = Cert.ReferenceIdeal.Ref.REF (m ((c : Thread nD τ).loc main_arg1)) (m ((c : Thread nD τ).loc main_arg2)) (m ((c : Thread nD τ).loc main_arg3)) := by
  obtain ⟨p0, p1, p2, p3⟩ := hpre c
  have hb := Cert.Pre_attention_inputs.bound_real _ _ _ _ _ _ _ _ _ _ p0
  have hq := Cert.Pre_attention_inputs.query_real _ _ _ _ _ _ _ _ _ _ p1
  have hk := Cert.Pre_attention_inputs.key_real _ _ _ _ _ _ _ _ _ _ p2
  have ho := Cert.Pre_attention_inputs.key_one _ _ _ _ _ _ _ _ _ _ p3
  clear p0 p1 p2 p3 hpre
  refine (dats m 0 c).arrAt_eq_of_covers 10 _ (by decide +kernel) fun t hf y => ?_
  blk_simp
  rw [after0_10]
  have hN : t.val < 32 := (idx t).2.2.2.2.2.2.2.2.2.2.2.2.2.2.2.2.2
  have key : ∀ (r : Fin 1024) (cc : Fin 512), O10 (iblk m c 0 t) (iblk m c 1 t) (iblk m c 2 t) (iblk m c 3 t) (ix2 r cc) =
      Cert.ReferenceIdeal.Ref.REF (m ((c : Thread nD τ).loc main_arg1)) (m ((c : Thread nD τ).loc main_arg2)) (m ((c : Thread nD τ).loc main_arg3))
        (ix2 (⟨t.val % 8 * 1024 + r.val, by omega⟩ : Fin 8192) (⟨t.val / 8 * 512 + cc.val, by omega⟩ : Fin 2048)) := by
    intro r cc
    have h := Cert.AttnValue.block (m ((c : Thread nD τ).loc main_arg0)) (m ((c : Thread nD τ).loc main_arg1)) (m ((c : Thread nD τ).loc main_arg2)) (m ((c : Thread nD τ).loc main_arg3))
      (iblk m c 0 t) (iblk m c 1 t) (iblk m c 2 t) (iblk m c 3 t) ⟨t.val / 8, by omega⟩ ⟨cc.val / 128, by omega⟩ ⟨t.val % 8, by omega⟩ r ⟨cc.val % 128, by omega⟩
      (blk0 m c t) (blk1 m c t) (blk2 m c t) (blk3 m c t) (fun s => ho ⟨t.val / 8, by omega⟩ s) hb hq hk
    have e1 : (⟨cc.val / 128 * 128 + cc.val % 128, by omega⟩ : Fin 512) = cc := Fin.ext (by show cc.val / 128 * 128 + cc.val % 128 = cc.val; omega)
    have e2 : (⟨(t.val / 8 * 4 + cc.val / 128) * 128 + cc.val % 128, by omega⟩ : Fin 2048) = ⟨t.val / 8 * 512 + cc.val, by omega⟩ :=
      Fin.ext (by show (t.val / 8 * 4 + cc.val / 128) * 128 + cc.val % 128 = t.val / 8 * 512 + cc.val; omega)
    rw [← e2, ← h]
    exact congrArg _ (congrArg (ix2 r) e1.symm)
  have hy := (congrArg (O10 (iblk m c 0 t) (iblk m c 1 t) (iblk m c 2 t) (iblk m c 3 t)) (ValueIdx.eq_ix2 (n0 := 1024) (n1 := 512) y)).trans (key (y 0) (y 1))
  refine hy.trans (congrArg _ ?_)
  blk_point [idx t]

theorem final11 (c : Dev nD) : (dats m 0 c).arrAt 11 (cfgs 0).N = narrow (s := S8192x2048) (m ((c : Thread nD τ).loc main_arg4)) := by
  refine (dats m 0 c).arrAt_eq_of_covers 11 _ (by decide +kernel) fun t hf y => ?_
  blk_simp
  rw [after0_11]
  pointwise [k0_pay17, narrow]
  blk_point [iblk, V, idx t]

theorem final12 (c : Dev nD) : (dats m 0 c).arrAt 12 (cfgs 0).N = narrow (s := S2048x2048) (m ((c : Thread nD τ).loc main_arg5)) := by
  refine (dats m 0 c).arrAt_eq_of_covers 12 _ (by decide +kernel) fun t hf y => ?_
  blk_simp
  rw [after0_12]
  pointwise [k0_pay18, narrow]
  blk_point [iblk, V, idx t]

theorem final13 (c : Dev nD) : (dats m 0 c).arrAt 13 (cfgs 0).N = narrow (s := S2048x2048) (m ((c : Thread nD τ).loc main_arg6)) := by
  refine (dats m 0 c).arrAt_eq_of_covers 13 _ (by decide +kernel) fun t hf y => ?_
  blk_simp
  rw [after0_13]
  pointwise [k0_pay19, narrow]
  blk_point [iblk, V, idx t]

theorem final14 (c : Dev nD) : (dats m 0 c).arrAt 14 (cfgs 0).N = narrow (s := S2048x2048) (m ((c : Thread nD τ).loc main_arg7)) := by
  refine (dats m 0 c).arrAt_eq_of_covers 14 _ (by decide +kernel) fun t hf y => ?_
  blk_simp
  rw [after0_14]
  pointwise [k0_pay20, narrow]
  blk_point [iblk, V, idx t]

theorem final15 (c : Dev nD) : (dats m 0 c).arrAt 15 (cfgs 0).N = narrow (s := S2048x8192) (m ((c : Thread nD τ).loc main_arg8)) := by
  refine (dats m 0 c).arrAt_eq_of_covers 15 _ (by decide +kernel) fun t hf y => ?_
  blk_simp
  rw [after0_15]
  pointwise [k0_pay21, narrow]
  blk_point [iblk, V, idx t]

theorem final16 (c : Dev nD) : (dats m 0 c).arrAt 16 (cfgs 0).N = narrow (s := S1024x2048) (m ((c : Thread nD τ).loc main_arg9)) := by
  refine (dats m 0 c).arrAt_eq_of_covers 16 _ (by decide +kernel) fun t hf y => ?_
  blk_simp
  rw [after0_16]
  pointwise [k0_pay22, narrow]
  blk_point [iblk, V, idx t]

end Cert.KernelIdeal.Attn
-- ==== Proof.AttnClaim.lean ====
/- The attention kernel computes the reference attention, where the precondition holds. -/
module

public import proofs.«01_k».proof.Proof.AttnFinal

@[expose] public section

set_option maxRecDepth 16384

noncomputable section

namespace Cert.AttnClaim
open Idealize.ShloMosaic

instance : Cert.Pre_attention_inputs.Facts := Cert.Pre_attention_inputs.Gen.facts

set_option maxHeartbeats 1600000 in
theorem algebraic : Cert.algebraic_KernelIdeal_ReferenceIdeal_pre_attention_inputs := by
  pair_intro
  · run_from Cert.KernelIdeal.Attn.run_main m g
    exact hc.1 16
  · run_from Cert.ReferenceIdeal.Value.run m' g'
    · exact (Cert.KernelIdeal.Attn.final10 m c hpre).symm
    · exact (Cert.KernelIdeal.Attn.final11 m c).symm
    · exact (Cert.KernelIdeal.Attn.final12 m c).symm
    · exact (Cert.KernelIdeal.Attn.final13 m c).symm
    · exact (Cert.KernelIdeal.Attn.final14 m c).symm
    · exact (Cert.KernelIdeal.Attn.final15 m c).symm
    · exact (Cert.KernelIdeal.Attn.final16 m c).symm

end Cert.AttnClaim
-- ==== Proof.AttnTripBits.lean ====
/-
  One trip of the attention body's loop over key blocks, and the loop as a whole, as vectors: four
  key blocks a trip, each adding its exponentials to the running sum, its weighted values to the
  accumulator, and leaving its own exponentials for the next block.
  Of the kernel in its machine arithmetic.
-/
module

public import proofs.«01_k».proof.Proof.Gen.Kernel.Loops
public import Idealize.ShloMosaic.Lib.VecWindow
public import Idealize.ShloMosaic.Lib.Pointwise

@[expose] public section

set_option maxRecDepth 16384

noncomputable section

namespace Cert.Kernel.Attn

open Cert.Kernel Cert.Kernel.Gen Idealize.ShloMosaic Idealize.ShloMosaic.TcCoe Idealize.SL.Sem

/-- Key block `n`: rows `512 n … 512 n + 511` of the group's keys. -/
def kc (x : Vec Bits S8192x256 .bf16) (n : ℕ) : Vec Bits S512x256 .bf16 :=
  fun y => x (ix2 (Fin.ofNat 8192 (512 * n + (y 0).val)) (y 1))

/-- Value block `n`: the first 128 rows of the group's values at columns `512 n … 512 n + 511`. -/
def vc (x : Vec Bits S144x8192 .bf16) (n : ℕ) : Vec Bits S128x512 .bf16 :=
  fun y => x (ix2 (Fin.ofNat 144 (y 0).val) (Fin.ofNat 8192 (512 * n + (y 1).val)))

/-- The exponentials of a key block against the staged queries. -/
abbrev prb (a : Vec Bits S512x256 .bf16) (q : Vec Bits S256x4096 .bf16) : Vec Bits S512x4096 .bf16 :=
  k0_pay35 (F := Bits) a q

/-- The running sum with a key block's exponentials added. -/
abbrev sm (l : FVec Bits S1x4096 .f32) (a : Vec Bits S512x256 .bf16) (q : Vec Bits S256x4096 .bf16) :
    FVec Bits S1x4096 .f32 := k0_pay36 (F := Bits) l a q

/-- The accumulator with a value block's product with exponentials added. -/
abbrev ac (v : Vec Bits S128x512 .bf16) (A : Vec Bits S128x4096 .f32) (p : Vec Bits S512x4096 .bf16) :
    Vec Bits S128x4096 .f32 := k0_pay37 (F := Bits) v A p

theorem kc_window (x : Vec Bits S8192x256 .bf16) (n : ℕ) (off : Fin 2 → ℕ) (inb) (h : off = ![512 * n, 0])
    (hn : n < 16) : VecWindow.window x off S512x256.size inb = kc x n := by
  subst h
  funext y
  unfold VecWindow.window kc
  refine congrArg x (funext fun a => Fin.ext ?_)
  have h0 : (y 0).val < 512 := (y 0).isLt
  match a with
  | ⟨0, _⟩ => show 512 * n + 1 * (y 0).val = (512 * n + (y 0).val) % 8192; omega
  | ⟨1, _⟩ => show 0 + 1 * (y 1).val = (y 1).val; omega

theorem vc_window (x : Vec Bits S144x8192 .bf16) (n : ℕ) (off : Fin 2 → ℕ) (inb) (h : off = ![0, 512 * n])
    (hn : n < 16) : VecWindow.window x off S128x512.size inb = vc x n := by
  subst h
  funext y
  unfold VecWindow.window vc
  refine congrArg x (funext fun a => Fin.ext ?_)
  have h0 : (y 0).val < 128 := (y 0).isLt
  have h1 : (y 1).val < 512 := (y 1).isLt
  match a with
  | ⟨0, _⟩ => show 0 + 1 * (y 0).val = (y 0).val % 144; omega
  | ⟨1, _⟩ => show 512 * n + 1 * (y 1).val = (512 * n + (y 1).val) % 8192; omega

theorem readK (arg4 : Memref sig .tc .vmem S8192x256 .bf16) (X : BufTy.Contents (Elt Bits) arg4.view.ty) (n : ℕ)
    (off : Fin 2 → ℕ) (inb) (h : off = ![512 * n, 0]) (hn : n < 16) :
    View.readAt (Elt Bits) arg4.view (Rect.unit (s := S8192x256) off S512x256.size inb).toLoadRect X
      = kc (arg4.view.read (Elt Bits) X) n :=
  kc_window _ n off inb h hn

theorem readV (arg5 : Memref sig .tc .vmem S144x8192 .bf16) (X : BufTy.Contents (Elt Bits) arg5.view.ty) (n : ℕ)
    (off : Fin 2 → ℕ) (inb) (h : off = ![0, 512 * n]) (hn : n < 16) :
    View.readAt (Elt Bits) arg5.view (Rect.unit (s := S144x8192) off S128x512.size inb).toLoadRect X
      = vc (arg5.view.read (Elt Bits) X) n :=
  vc_window _ n off inb h hn

section
variable {sp : Space} {S : Shape} {e : EltTy}

theorem rd_full (v : View sig .tc sp S e) (f : v.ty.Contents (Elt Bits)) {off : Fin S.rank → ℕ}
    (inb : ∀ a, off a + S.size a ≤ S.size a) :
    v.readAt (Elt Bits) (Rect.unit off (no_index S.size) inb).toLoadRect f = v.read (Elt Bits) f :=
  View.readAt_full v f inb

theorem rc_full (v : View sig .tc sp S e) {off off' : Fin S.rank → ℕ}
    (inb : ∀ a, off a + S.size a ≤ S.size a) (inb' : ∀ a, off' a + S.size a ≤ S.size a)
    (w : S.Idx → Elt Bits e) (L : List (View.Piece (Elt Bits) S e)) :
    v.readCov ((⟨Rect.unit off' (no_index S.size) inb', w⟩ : View.Piece (Elt Bits) S e) :: L)
      (Rect.unit off (no_index S.size) inb).toLoadRect = w :=
  View.readCov_full v inb inb' w L

theorem rw_full (v : View sig .tc sp S e) (f : v.ty.Contents (Elt Bits)) {off : Fin S.rank → ℕ}
    (inb : ∀ a, off a + S.size a ≤ S.size a) (w : S.Idx → Elt Bits e)
    (L : List (View.Piece (Elt Bits) S e)) :
    v.read (Elt Bits) (v.writes (Elt Bits) f
      ((⟨Rect.unit off (no_index S.size) inb, w⟩ : View.Piece (Elt Bits) S e) :: L)) = w :=
  View.read_writes_full v f inb w L
end

theorem trips_eq : k0_t1_loop.trips = 3 := by decide +kernel

section
variable (𝒱 : Variants) (c : Dev nD) (bd : Option 𝒱.V) (i : grid0.Coords) (arg2 : Memref sig .tc .smem S1x1 .f32) (harg2 : arg2.IsWhole) (arg3 : Memref sig .tc .vmem S512x1024 .bf16) (harg3 : arg3.IsWhole) (arg4 : Memref sig .tc .vmem S8192x256 .bf16) (harg4 : arg4.IsWhole) (arg5 : Memref sig .tc .vmem S144x8192 .bf16) (harg5 : arg5.IsWhole) (arg6 : Memref sig .tc .vmem S256x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x8192 .f32) (harg10 : arg10.IsWhole) (arg11 : Memref sig .tc .vmem S32x2048 .f32) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S64x8192 .bf16) (harg17 : arg17.IsWhole) (arg18 : Memref sig .tc .vmem S32x2048 .bf16) (harg18 : arg18.IsWhole) (arg19 : Memref sig .tc .vmem S256x4096 .bf16) (harg19 : arg19.IsWhole) (arg20 : Memref sig .tc .vmem S128x4096 .f32) (harg20 : arg20.IsWhole) (arg21 : Memref sig .tc .vmem S512x4096 .bf16) (harg21 : arg21.IsWhole) (arg22 : Memref sig .tc .vmem S512x4096 .bf16) (harg22 : arg22.IsWhole) (v50 : FVec Bits S1x4096 .f32) (v51 : Vec Bits S512x256 .bf16) (X4 : BufTy.Contents (Elt Bits) arg4.view.ty) (X5 : BufTy.Contents (Elt Bits) arg5.view.ty) (X19 : BufTy.Contents (Elt Bits) arg19.view.ty) (k : Fin k0_t1_loop.trips) (acc : FVec Bits S1x4096 .f32) (f20 : BufTy.Contents (Elt Bits) arg20.view.ty) (f21 : BufTy.Contents (Elt Bits) arg21.view.ty) (f22 : BufTy.Contents (Elt Bits) arg22.view.ty)

theorem koff (r : Fin 4) (n : ℕ) (h : n = 4 * k.val + r.val + 1) :
    k0_off1 k (BitVec.ofNat 32 r.val) = ![512 * n, 0] := by
  rw [k0_off1_eq k r, h]; congr 1; omega

theorem voff (r : Fin 4) (n : ℕ) (h : n = 4 * k.val + r.val) :
    k0_off2 k (BitVec.ofNat 32 r.val) = ![0, 512 * n] := by
  rw [k0_off2_eq k r, h]
  have : 2048 * k.val + 512 * r.val = 512 * (4 * k.val + r.val) := by omega
  rw [this]

/-- The sum a trip yields. -/
theorem trip_R : tripR_k0_t1 (F := Bits) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 k acc f20 f21 f22
    = sm (sm (sm (sm acc (kc (arg4.view.read (Elt Bits) X4) (4 * k.val + 1)) (arg19.view.read (Elt Bits) X19))
        (kc (arg4.view.read (Elt Bits) X4) (4 * k.val + 2)) (arg19.view.read (Elt Bits) X19))
        (kc (arg4.view.read (Elt Bits) X4) (4 * k.val + 3)) (arg19.view.read (Elt Bits) X19))
        (kc (arg4.view.read (Elt Bits) X4) (4 * k.val + 4)) (arg19.view.read (Elt Bits) X19) := by
  have hk : k.val < 3 := trips_eq ▸ k.isLt
  unfold tripR_k0_t1 trip_k0_t1
  dsimp only
  sl_unfold_words
  simp only [rd_full, rc_full, rw_full]
  rw [← readK arg4 X4 (4 * k.val + 1) _ (k0_off1_inb k 0) (koff k 0 _ rfl) (by omega),
    ← readK arg4 X4 (4 * k.val + 2) _ (k0_off1_inb k 1) (koff k 1 _ rfl) (by omega),
    ← readK arg4 X4 (4 * k.val + 3) _ (k0_off1_inb k 2) (koff k 2 _ rfl) (by omega),
    ← readK arg4 X4 (4 * k.val + 4) _ (k0_off1_inb k 3) (koff k 3 _ rfl) (by omega)]
  rfl

/-- What a trip leaves in the accumulator. -/
theorem trip_20 : arg20.view.read (Elt Bits) (arg20.view.writes (Elt Bits) f20
      (tripL_k0_t1 (F := Bits) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 k acc f20 f21 f22).1)
    = ac (vc (arg5.view.read (Elt Bits) X5) (4 * k.val + 3))
        (ac (vc (arg5.view.read (Elt Bits) X5) (4 * k.val + 2))
          (ac (vc (arg5.view.read (Elt Bits) X5) (4 * k.val + 1))
            (ac (vc (arg5.view.read (Elt Bits) X5) (4 * k.val)) (arg20.view.read (Elt Bits) f20)
              (arg21.view.read (Elt Bits) f21))
            (prb (kc (arg4.view.read (Elt Bits) X4) (4 * k.val + 1)) (arg19.view.read (Elt Bits) X19)))
          (prb (kc (arg4.view.read (Elt Bits) X4) (4 * k.val + 2)) (arg19.view.read (Elt Bits) X19)))
        (prb (kc (arg4.view.read (Elt Bits) X4) (4 * k.val + 3)) (arg19.view.read (Elt Bits) X19)) := by
  have hk : k.val < 3 := trips_eq ▸ k.isLt
  unfold tripL_k0_t1 trip_k0_t1
  dsimp only
  sl_unfold_words
  simp only [rd_full, rc_full, rw_full]
  rw [← readK arg4 X4 (4 * k.val + 1) _ (k0_off1_inb k 0) (koff k 0 _ rfl) (by omega),
    ← readK arg4 X4 (4 * k.val + 2) _ (k0_off1_inb k 1) (koff k 1 _ rfl) (by omega),
    ← readK arg4 X4 (4 * k.val + 3) _ (k0_off1_inb k 2) (koff k 2 _ rfl) (by omega),
    ← readV arg5 X5 (4 * k.val) _ (k0_off2_inb k 0) (voff k 0 _ rfl) (by omega),
    ← readV arg5 X5 (4 * k.val + 1) _ (k0_off2_inb k 1) (voff k 1 _ rfl) (by omega),
    ← readV arg5 X5 (4 * k.val + 2) _ (k0_off2_inb k 2) (voff k 2 _ rfl) (by omega),
    ← readV arg5 X5 (4 * k.val + 3) _ (k0_off2_inb k 3) (voff k 3 _ rfl) (by omega)]
  rfl

/-- What a trip leaves in the buffer the next trip reads its first block of exponentials from. -/
theorem trip_21 : arg21.view.read (Elt Bits) (arg21.view.writes (Elt Bits) f21
      (tripL_k0_t1 (F := Bits) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 k acc f20 f21 f22).2.1)
    = prb (kc (arg4.view.read (Elt Bits) X4) (4 * k.val + 4)) (arg19.view.read (Elt Bits) X19) := by
  have hk : k.val < 3 := trips_eq ▸ k.isLt
  unfold tripL_k0_t1 trip_k0_t1
  dsimp only
  sl_unfold_words
  simp only [rd_full, rc_full, rw_full]
  rw [← readK arg4 X4 (4 * k.val + 4) _ (k0_off1_inb k 3) (koff k 3 _ rfl) (by omega)]
  rfl
end

end Cert.Kernel.Attn
-- ==== Proof.AttnLoopBits.lean ====
/-
  The attention body's loop as a whole: after three trips the running sum holds thirteen key blocks,
  the accumulator twelve, and the first buffer the exponentials of the thirteenth.
  Of the kernel in its machine arithmetic.
-/
module

public import proofs.«01_k».proof.Proof.AttnTripBits

@[expose] public section

set_option maxRecDepth 16384

noncomputable section

namespace Cert.Kernel.Attn

open Cert.Kernel Cert.Kernel.Gen Idealize.ShloMosaic Idealize.ShloMosaic.TcCoe Idealize.SL.Sem

/-- The running sum after `n` key blocks. -/
def lN (x : Vec Bits S8192x256 .bf16) (q : Vec Bits S256x4096 .bf16) : ℕ → FVec Bits S1x4096 .f32
  | 0 => k0_pay29 (F := Bits)
  | n + 1 => sm (lN x q n) (kc x n) q

/-- The accumulator after `n` key blocks. -/
def aN (x : Vec Bits S8192x256 .bf16) (v : Vec Bits S144x8192 .bf16) (q : Vec Bits S256x4096 .bf16) :
    ℕ → Vec Bits S128x4096 .f32
  | 0 => k0_pay28 (F := Bits)
  | n + 1 => ac (vc v n) (aN x v q n) (prb (kc x n) q)

section
variable (𝒱 : Variants) (c : Dev nD) (bd : Option 𝒱.V) (i : grid0.Coords) (arg2 : Memref sig .tc .smem S1x1 .f32) (harg2 : arg2.IsWhole) (arg3 : Memref sig .tc .vmem S512x1024 .bf16) (harg3 : arg3.IsWhole) (arg4 : Memref sig .tc .vmem S8192x256 .bf16) (harg4 : arg4.IsWhole) (arg5 : Memref sig .tc .vmem S144x8192 .bf16) (harg5 : arg5.IsWhole) (arg6 : Memref sig .tc .vmem S256x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x8192 .f32) (harg10 : arg10.IsWhole) (arg11 : Memref sig .tc .vmem S32x2048 .f32) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S64x8192 .bf16) (harg17 : arg17.IsWhole) (arg18 : Memref sig .tc .vmem S32x2048 .bf16) (harg18 : arg18.IsWhole) (arg19 : Memref sig .tc .vmem S256x4096 .bf16) (harg19 : arg19.IsWhole) (arg20 : Memref sig .tc .vmem S128x4096 .f32) (harg20 : arg20.IsWhole) (arg21 : Memref sig .tc .vmem S512x4096 .bf16) (harg21 : arg21.IsWhole) (arg22 : Memref sig .tc .vmem S512x4096 .bf16) (harg22 : arg22.IsWhole) (v50 : FVec Bits S1x4096 .f32) (v51 : Vec Bits S512x256 .bf16) (X4 : BufTy.Contents (Elt Bits) arg4.view.ty) (X5 : BufTy.Contents (Elt Bits) arg5.view.ty) (X19 : BufTy.Contents (Elt Bits) arg19.view.ty) (G20 : BufTy.Contents (Elt Bits) arg20.view.ty) (G21 : BufTy.Contents (Elt Bits) arg21.view.ty) (G22 : BufTy.Contents (Elt Bits) arg22.view.ty) (init : FVec Bits S1x4096 .f32)
  (x : Vec Bits S8192x256 .bf16) (v : Vec Bits S144x8192 .bf16) (q : Vec Bits S256x4096 .bf16)

/-- The state before trip `k`: `4k + 1` blocks summed, `4k` accumulated, block `4k`'s exponentials kept. -/
theorem loop_inv (hx : arg4.view.read (Elt Bits) X4 = x) (hv : arg5.view.read (Elt Bits) X5 = v)
    (hq : arg19.view.read (Elt Bits) X19 = q) (h0 : init = lN x q 1)
    (h20 : arg20.view.read (Elt Bits) G20 = aN x v q 0) (h21 : arg21.view.read (Elt Bits) G21 = prb (kc x 0) q) :
    ∀ k : ℕ, k ≤ 3 →
      (st_k0_t1 (F := Bits) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G20 G21 G22 init k).1 = lN x q (4 * k + 1)
      ∧ arg20.view.read (Elt Bits) (arg20.view.writes (Elt Bits) G20
          (st_k0_t1 (F := Bits) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G20 G21 G22 init k).2.1) = aN x v q (4 * k)
      ∧ arg21.view.read (Elt Bits) (arg21.view.writes (Elt Bits) G21
          (st_k0_t1 (F := Bits) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G20 G21 G22 init k).2.2.1) = prb (kc x (4 * k)) q := by
  intro k
  induction k with
  | zero =>
    intro _
    exact ⟨h0, h20, h21⟩
  | succ k ih =>
    intro hk
    obtain ⟨i1, i2, i3⟩ := ih (by omega)
    have hs := st_k0_t1_succ (F := Bits) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G20 G21 G22 init ⟨k, by rw [trips_eq]; omega⟩
    dsimp only at hs
    rw [hs]
    dsimp only
    refine ⟨?_, ?_, ?_⟩
    · rw [trip_R, hx, hq, i1]; rfl
    · rw [View.writes_append, trip_20, hx, hv, hq, i2, i3]; rfl
    · rw [View.writes_append, trip_21, hx, hq]; rfl
end

end Cert.Kernel.Attn

end
-- ==== Proof.AttnBodyBits.lean ====
/-
  What the attention body stages and leaves: the staged queries and the attention block, as functions of the
  input blocks.
  Of the kernel in its machine arithmetic.
-/
module

public import proofs.«01_k».proof.Proof.AttnLoopBits

@[expose] public section

set_option maxRecDepth 16384

noncomputable section

namespace Cert.Kernel.Attn

open Cert.Kernel Cert.Kernel.Gen Idealize.ShloMosaic Idealize.ShloMosaic.TcCoe Idealize.SL.Sem

/-- The staged queries: the four heads' queries side by side in the first 128 rows, the negated bound in row 128,
    zeros below. -/
def QS (x0 : Vec Bits S1x1 .f32) (x1 : Vec Bits S512x1024 .bf16) : Vec Bits S256x4096 .bf16 := fun j =>
  if (j 0).val < 128 then x1 (ix2 (Fin.ofNat 512 ((j 1).val / 1024 * 128 + (j 0).val)) (Fin.ofNat 1024 ((j 1).val % 1024)))
  else k0_pay27 (F := Bits) (x0 (ix2 0 0)) (ix2 (Fin.ofNat 128 ((j 0).val - 128)) (j 1))

theorem pay23_id (z : Vec Bits S128x1024 .bf16) : k0_pay23 (F := Bits) z = z := by
  funext w; pointwise [k0_pay23]
theorem pay24_id (z : Vec Bits S128x1024 .bf16) : k0_pay24 (F := Bits) z = z := by
  funext w; pointwise [k0_pay24]
theorem pay25_id (z : Vec Bits S128x1024 .bf16) : k0_pay25 (F := Bits) z = z := by
  funext w; pointwise [k0_pay25]
theorem pay26_id (z : Vec Bits S128x1024 .bf16) : k0_pay26 (F := Bits) z = z := by
  funext w; pointwise [k0_pay26]

/-- A load of one head's query block, at an index of the staged queries. -/
theorem rdq (u : View sig .tc .vmem S512x1024 .bf16) (X : u.ty.Contents (Elt Bits)) (o p : ℕ) (inb)
    (y : S256x4096.Idx) (ho : o + 128 ≤ 512) (hp : p = o / 128 * 1024) (h) (he : (y 1).val / 1024 * 128 = o)
    (c0 : (y 0).val < 128) :
    u.readAt (Elt Bits) (Rect.unit (s := S512x1024) ![o, 0] ![128, 1024] inb).toLoadRect X
      (Rect.unitLocal (s := S256x4096) (off := ![0, p]) (size := ![128, 1024]) y h)
      = u.read (Elt Bits) X (ix2 (Fin.ofNat 512 ((y 1).val / 1024 * 128 + (y 0).val)) (Fin.ofNat 1024 ((y 1).val % 1024))) := by
  have y1 : (y 1).val < 4096 := (y 1).isLt
  refine congrArg (u.read (Elt Bits) X) (funext fun a => Fin.ext ?_)
  match a with
  | ⟨0, _⟩ =>
    show o + 1 * ((y 0).val - 0) = ((y 1).val / 1024 * 128 + (y 0).val) % 512
    omega
  | ⟨1, _⟩ =>
    show 0 + 1 * ((y 1).val - p) = ((y 1).val % 1024) % 1024
    omega

/-- The staged queries read back whole: four query blocks side by side over the row of the bound. -/
theorem qs_cov (v : View sig .tc .vmem S256x4096 .bf16) (u : View sig .tc .vmem S512x1024 .bf16)
    (X : u.ty.Contents (Elt Bits)) (x0 : Vec Bits S1x1 .f32) (b : Elt Bits .f32) (hb : b = x0 (ix2 0 0))
    (x1 : Vec Bits S512x1024 .bf16) (hx : u.read (Elt Bits) X = x1) (i1 i2 i3 i4 i5 i6 j2 j3 j4 j5) :
    v.readCov (Val := Elt Bits)
      [⟨Rect.unit (s := S256x4096) ![128, 0] S128x4096.size i1, k0_pay27 (F := Bits) b⟩,
       ⟨Rect.unit (s := S256x4096) ![0, 3072] S128x1024.size i2, k0_pay26 (F := Bits) (u.readAt (Elt Bits) (Rect.unit (s := S512x1024) ![384, 0] S128x1024.size j2).toLoadRect X)⟩,
       ⟨Rect.unit (s := S256x4096) ![0, 2048] S128x1024.size i3, k0_pay25 (F := Bits) (u.readAt (Elt Bits) (Rect.unit (s := S512x1024) ![256, 0] S128x1024.size j3).toLoadRect X)⟩,
       ⟨Rect.unit (s := S256x4096) ![0, 1024] S128x1024.size i4, k0_pay24 (F := Bits) (u.readAt (Elt Bits) (Rect.unit (s := S512x1024) ![128, 0] S128x1024.size j4).toLoadRect X)⟩,
       ⟨Rect.unit (s := S256x4096) ![0, 0] S128x1024.size i5, k0_pay23 (F := Bits) (u.readAt (Elt Bits) (Rect.unit (s := S512x1024) ![0, 0] S128x1024.size j5).toLoadRect X)⟩]
      (Rect.unit (s := S256x4096) ![0, 0] S256x4096.size i6).toLoadRect = QS x0 x1 := by
  subst hb hx
  refine (View.readAt_full v _ i6).trans ?_
  funext y
  have y0 : (y 0).val < 256 := (y 0).isLt
  have y1 : (y 1).val < 4096 := (y 1).isLt
  unfold QS
  by_cases c0 : (y 0).val < 128
  · rw [if_pos c0, View.read_writes_cons_unit v _ i1 _ _ y rfl, dif_neg (fun h => by have := (h 0).1; simp at this; omega)]
    rcases (by omega : (y 1).val / 1024 = 0 ∨ (y 1).val / 1024 = 1 ∨ (y 1).val / 1024 = 2 ∨ (y 1).val / 1024 = 3) with k | k | k | k
    · rw [View.read_writes_cons_unit v _ i2 _ _ y rfl, dif_neg (fun h => by have := (h 1).1; simp at this; omega)]
      rw [View.read_writes_cons_unit v _ i3 _ _ y rfl, dif_neg (fun h => by have := (h 1).1; simp at this; omega)]
      rw [View.read_writes_cons_unit v _ i4 _ _ y rfl, dif_neg (fun h => by have := (h 1).1; simp at this; omega)]
      rw [View.read_writes_cons_unit v _ i5 _ _ y rfl, dif_pos (Fin.forall_fin_two.2 ⟨⟨Nat.zero_le _, by simpa using c0⟩, ⟨by first | (simp; done) | (simp; omega), by first | (simp; done) | (simp; omega)⟩⟩), pay23_id]
      exact rdq u X 0 0 j5 y (by omega) (by omega) _ (by omega) c0
    · rw [View.read_writes_cons_unit v _ i2 _ _ y rfl, dif_neg (fun h => by have := (h 1).1; simp at this; omega)]
      rw [View.read_writes_cons_unit v _ i3 _ _ y rfl, dif_neg (fun h => by have := (h 1).1; simp at this; omega)]
      rw [View.read_writes_cons_unit v _ i4 _ _ y rfl, dif_pos (Fin.forall_fin_two.2 ⟨⟨Nat.zero_le _, by simpa using c0⟩, ⟨by first | (simp; done) | (simp; omega), by first | (simp; done) | (simp; omega)⟩⟩), pay24_id]
      exact rdq u X 128 1024 j4 y (by omega) (by omega) _ (by omega) c0
    · rw [View.read_writes_cons_unit v _ i2 _ _ y rfl, dif_neg (fun h => by have := (h 1).1; simp at this; omega)]
      rw [View.read_writes_cons_unit v _ i3 _ _ y rfl, dif_pos (Fin.forall_fin_two.2 ⟨⟨Nat.zero_le _, by simpa using c0⟩, ⟨by first | (simp; done) | (simp; omega), by first | (simp; done) | (simp; omega)⟩⟩), pay25_id]
      exact rdq u X 256 2048 j3 y (by omega) (by omega) _ (by omega) c0
    · rw [View.read_writes_cons_unit v _ i2 _ _ y rfl, dif_pos (Fin.forall_fin_two.2 ⟨⟨Nat.zero_le _, by simpa using c0⟩, ⟨by first | (simp; done) | (simp; omega), by first | (simp; done) | (simp; omega)⟩⟩), pay26_id]
      exact rdq u X 384 3072 j2 y (by omega) (by omega) _ (by omega) c0
  · rw [if_neg c0, View.read_writes_cons_unit v _ i1 _ _ y rfl, dif_pos (Fin.forall_fin_two.2 ⟨⟨by simp; omega, by simp; omega⟩, ⟨Nat.zero_le _, by simp; omega⟩⟩)]
    refine congrArg (k0_pay27 (F := Bits) (x0 (ix2 0 0))) ?_
    funext a
    match a with
    | ⟨0, _⟩ => exact Fin.ext (by show (y 0).val - 128 = ((y 0).val - 128) % 128; omega)
    | ⟨1, _⟩ => rfl

/-- What the staging buffer then reads. -/
theorem qs_read (v : View sig .tc .vmem S256x4096 .bf16) (u : View sig .tc .vmem S512x1024 .bf16)
    (X : u.ty.Contents (Elt Bits)) (x0 : Vec Bits S1x1 .f32) (b : Elt Bits .f32) (hb : b = x0 (ix2 0 0))
    (x1 : Vec Bits S512x1024 .bf16) (hx : u.read (Elt Bits) X = x1) (i1 i2 i3 i4 i5 j2 j3 j4 j5) :
    v.read (Elt Bits) (v.writes (Elt Bits) v.junk
      [⟨Rect.unit (s := S256x4096) ![128, 0] ![128, 4096] i1, k0_pay27 (F := Bits) b⟩,
       ⟨Rect.unit (s := S256x4096) ![0, 3072] ![128, 1024] i2, k0_pay26 (F := Bits) (u.readAt (Elt Bits) (Rect.unit (s := S512x1024) ![384, 0] ![128, 1024] j2).toLoadRect X)⟩,
       ⟨Rect.unit (s := S256x4096) ![0, 2048] ![128, 1024] i3, k0_pay25 (F := Bits) (u.readAt (Elt Bits) (Rect.unit (s := S512x1024) ![256, 0] ![128, 1024] j3).toLoadRect X)⟩,
       ⟨Rect.unit (s := S256x4096) ![0, 1024] ![128, 1024] i4, k0_pay24 (F := Bits) (u.readAt (Elt Bits) (Rect.unit (s := S512x1024) ![128, 0] ![128, 1024] j4).toLoadRect X)⟩,
       ⟨Rect.unit (s := S256x4096) ![0, 0] ![128, 1024] i5, k0_pay23 (F := Bits) (u.readAt (Elt Bits) (Rect.unit (s := S512x1024) ![0, 0] ![128, 1024] j5).toLoadRect X)⟩]) = QS x0 x1 :=
  (View.readAt_full v _ (by decide : ∀ a, (![0, 0] : Fin 2 → ℕ) a + S256x4096.size a ≤ S256x4096.size a)).symm.trans
    (qs_cov v u X x0 b hb x1 hx i1 i2 i3 i4 i5 _ j2 j3 j4 j5)

theorem s11 (a b : S1x1.Idx) : a = b :=
  funext fun k => match k with
    | ⟨0, _⟩ => Subsingleton.elim (α := Fin 1) _ _
    | ⟨1, _⟩ => Subsingleton.elim (α := Fin 1) _ _

theorem first_eq (h : 0 < S1x1.numel) : Shape.Idx.first (s := S1x1) h = ix2 0 0 :=
  funext fun a => match a with
    | ⟨0, _⟩ => Subsingleton.elim (α := Fin 1) _ _
    | ⟨1, _⟩ => Subsingleton.elim (α := Fin 1) _ _

/-- A load of key block `n` at its offset. -/
theorem kread (v : View sig .tc .vmem S8192x256 .bf16) (X : v.ty.Contents (Elt Bits)) (o : ℕ) (inb)
    (ho : o / 512 < 16 ∧ o = 512 * (o / 512)) :
    v.readAt (Elt Bits) (Rect.unit (s := S8192x256) ![o, 0] ![512, 256] inb).toLoadRect X
      = kc (v.read (Elt Bits) X) (o / 512) :=
  kc_window _ (o / 512) _ inb (by rw [← ho.2]) ho.1

/-- A load of value block `n` at its offset. -/
theorem vread (v : View sig .tc .vmem S144x8192 .bf16) (X : v.ty.Contents (Elt Bits)) (o : ℕ) (inb)
    (ho : o / 512 < 16 ∧ o = 512 * (o / 512)) :
    v.readAt (Elt Bits) (Rect.unit (s := S144x8192) ![0, o] ![128, 512] inb).toLoadRect X
      = vc (v.read (Elt Bits) X) (o / 512) :=
  vc_window _ (o / 512) _ inb (by rw [← ho.2]) ho.1

/-- The four heads' blocks side by side, from the sums of the weights and the weighted values. -/
def OUT (l : FVec Bits S1x4096 .f32) (a : Vec Bits S128x4096 .f32) : Vec Bits S1024x512 .bf16 := fun j =>
  if (j 1).val / 128 = 0 then k0_pay47 (F := Bits) l a (ix2 (j 0) (Fin.ofNat 128 ((j 1).val - 0)))
  else if (j 1).val / 128 = 1 then k0_pay48 (F := Bits) l a (ix2 (j 0) (Fin.ofNat 128 ((j 1).val - 128)))
  else if (j 1).val / 128 = 2 then k0_pay49 (F := Bits) l a (ix2 (j 0) (Fin.ofNat 128 ((j 1).val - 256)))
  else k0_pay1 (F := Bits) (k0_pay46 l a) (ix2 (j 0) (Fin.ofNat 128 ((j 1).val - 384)))

/-- The attention block a point leaves, from its input blocks. -/
def O10 (x0 : Vec Bits S1x1 .f32) (x1 : Vec Bits S512x1024 .bf16) (x2 : Vec Bits S8192x256 .bf16)
    (x3 : Vec Bits S144x8192 .bf16) : Vec Bits S1024x512 .bf16 := fun j =>
  OUT (lN x2 (QS x0 x1) 16) (aN x2 x3 (QS x0 x1) 16) j

/-- The four heads' blocks read back whole. -/
theorem out_read (v : View sig .tc .vmem S1024x512 .bf16) (f : v.ty.Contents (Elt Bits)) (l : FVec Bits S1x4096 .f32)
    (a : Vec Bits S128x4096 .f32) (i0 i1 i2 i3) :
    v.read (Elt Bits) (v.writes (Elt Bits) f
      [⟨Rect.unit (s := S1024x512) ![0, 384] ![1024, 128] i3, k0_pay1 (F := Bits) (k0_pay46 l a)⟩,
       ⟨Rect.unit (s := S1024x512) ![0, 256] ![1024, 128] i2, k0_pay49 (F := Bits) l a⟩,
       ⟨Rect.unit (s := S1024x512) ![0, 128] ![1024, 128] i1, k0_pay48 (F := Bits) l a⟩,
       ⟨Rect.unit (s := S1024x512) ![0, 0] ![1024, 128] i0, k0_pay47 (F := Bits) l a⟩])
    = OUT l a := by
  funext y
  have y0 : (y 0).val < 1024 := (y 0).isLt
  have y1 : (y 1).val < 512 := (y 1).isLt
  rcases (by omega : (y 1).val / 128 = 0 ∨ (y 1).val / 128 = 1 ∨ (y 1).val / 128 = 2 ∨ (y 1).val / 128 = 3) with k | k | k | k
  · rw [View.read_writes_cons_unit v _ i3 _ _ y rfl, dif_neg (fun h => by have := (h 1).1; simp at this; omega)]
    rw [View.read_writes_cons_unit v _ i2 _ _ y rfl, dif_neg (fun h => by have := (h 1).1; simp at this; omega)]
    rw [View.read_writes_cons_unit v _ i1 _ _ y rfl, dif_neg (fun h => by have := (h 1).1; simp at this; omega)]
    rw [View.read_writes_cons_unit v _ i0 _ _ y rfl, dif_pos (Fin.forall_fin_two.2 ⟨⟨Nat.zero_le _, by first | (simp; done) | (simp; omega)⟩, ⟨by first | (simp; done) | (simp; omega), by first | (simp; done) | (simp; omega)⟩⟩)]
    unfold OUT
    rw [if_pos k]
    refine congrArg (k0_pay47 (F := Bits) l a) ?_
    funext b
    match b with
    | ⟨0, _⟩ => rfl
    | ⟨1, _⟩ => exact Fin.ext (by show (y 1).val - 0 = ((y 1).val - 0) % 128; omega)
  · rw [View.read_writes_cons_unit v _ i3 _ _ y rfl, dif_neg (fun h => by have := (h 1).1; simp at this; omega)]
    rw [View.read_writes_cons_unit v _ i2 _ _ y rfl, dif_neg (fun h => by have := (h 1).1; simp at this; omega)]
    rw [View.read_writes_cons_unit v _ i1 _ _ y rfl, dif_pos (Fin.forall_fin_two.2 ⟨⟨Nat.zero_le _, by first | (simp; done) | (simp; omega)⟩, ⟨by first | (simp; done) | (simp; omega), by first | (simp; done) | (simp; omega)⟩⟩)]
    unfold OUT
    rw [if_neg (by omega)]
    rw [if_pos k]
    refine congrArg (k0_pay48 (F := Bits) l a) ?_
    funext b
    match b with
    | ⟨0, _⟩ => rfl
    | ⟨1, _⟩ => exact Fin.ext (by show (y 1).val - 128 = ((y 1).val - 128) % 128; omega)
  · rw [View.read_writes_cons_unit v _ i3 _ _ y rfl, dif_neg (fun h => by have := (h 1).1; simp at this; omega)]
    rw [View.read_writes_cons_unit v _ i2 _ _ y rfl, dif_pos (Fin.forall_fin_two.2 ⟨⟨Nat.zero_le _, by first | (simp; done) | (simp; omega)⟩, ⟨by first | (simp; done) | (simp; omega), by first | (simp; done) | (simp; omega)⟩⟩)]
    unfold OUT
    rw [if_neg (by omega)]
    rw [if_neg (by omega)]
    rw [if_pos k]
    refine congrArg (k0_pay49 (F := Bits) l a) ?_
    funext b
    match b with
    | ⟨0, _⟩ => rfl
    | ⟨1, _⟩ => exact Fin.ext (by show (y 1).val - 256 = ((y 1).val - 256) % 128; omega)
  · rw [View.read_writes_cons_unit v _ i3 _ _ y rfl, dif_pos (Fin.forall_fin_two.2 ⟨⟨Nat.zero_le _, by first | (simp; done) | (simp; omega)⟩, ⟨by first | (simp; done) | (simp; omega), by first | (simp; done) | (simp; omega)⟩⟩)]
    unfold OUT
    rw [if_neg (by omega)]
    rw [if_neg (by omega)]
    rw [if_neg (by omega)]
    refine congrArg (k0_pay1 (F := Bits) (k0_pay46 l a)) ?_
    funext b
    match b with
    | ⟨0, _⟩ => rfl
    | ⟨1, _⟩ => exact Fin.ext (by show (y 1).val - 384 = ((y 1).val - 384) % 128; omega)

theorem out_final (x0 : Vec Bits S1x1 .f32) (x1 : Vec Bits S512x1024 .bf16) (x2 : Vec Bits S8192x256 .bf16)
    (x3 : Vec Bits S144x8192 .bf16) (v : View sig .tc .vmem S1024x512 .bf16) (f : v.ty.Contents (Elt Bits))
    (l : FVec Bits S1x4096 .f32) (a : Vec Bits S128x4096 .f32) (i0 i1 i2 i3)
    (hl : l = lN x2 (QS x0 x1) 16) (ha : a = aN x2 x3 (QS x0 x1) 16) :
    v.read (Elt Bits) (v.writes (Elt Bits) f
      [⟨Rect.unit (s := S1024x512) ![0, 384] ![1024, 128] i3, k0_pay1 (F := Bits) (k0_pay46 l a)⟩,
       ⟨Rect.unit (s := S1024x512) ![0, 256] ![1024, 128] i2, k0_pay49 (F := Bits) l a⟩,
       ⟨Rect.unit (s := S1024x512) ![0, 128] ![1024, 128] i1, k0_pay48 (F := Bits) l a⟩,
       ⟨Rect.unit (s := S1024x512) ![0, 0] ![1024, 128] i0, k0_pay47 (F := Bits) l a⟩]) = O10 x0 x1 x2 x3 := by
  subst hl ha
  exact out_read v f _ _ i0 i1 i2 i3

section
variable (𝒱 : Variants) (c : Dev nD) (bd : Option 𝒱.V) (i : grid0.Coords) (arg2 : Memref sig .tc .smem S1x1 .f32) (harg2 : arg2.IsWhole) (arg3 : Memref sig .tc .vmem S512x1024 .bf16) (harg3 : arg3.IsWhole) (arg4 : Memref sig .tc .vmem S8192x256 .bf16) (harg4 : arg4.IsWhole) (arg5 : Memref sig .tc .vmem S144x8192 .bf16) (harg5 : arg5.IsWhole) (arg6 : Memref sig .tc .vmem S256x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S64x2048 .f32) (harg9 : arg9.IsWhole) (arg10 : Memref sig .tc .vmem S64x8192 .f32) (harg10 : arg10.IsWhole) (arg11 : Memref sig .tc .vmem S32x2048 .f32) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S64x8192 .bf16) (harg17 : arg17.IsWhole) (arg18 : Memref sig .tc .vmem S32x2048 .bf16) (harg18 : arg18.IsWhole) (arg19 : Memref sig .tc .vmem S256x4096 .bf16) (harg19 : arg19.IsWhole) (arg20 : Memref sig .tc .vmem S128x4096 .f32) (harg20 : arg20.IsWhole) (arg21 : Memref sig .tc .vmem S512x4096 .bf16) (harg21 : arg21.IsWhole) (arg22 : Memref sig .tc .vmem S512x4096 .bf16) (harg22 : arg22.IsWhole) (v50 : FVec Bits S1x4096 .f32) (v51 : Vec Bits S512x256 .bf16) (X4 : BufTy.Contents (Elt Bits) arg4.view.ty) (X5 : BufTy.Contents (Elt Bits) arg5.view.ty) (X19 : BufTy.Contents (Elt Bits) arg19.view.ty) (G22 : BufTy.Contents (Elt Bits) arg22.view.ty)
  (x : Vec Bits S8192x256 .bf16) (v : Vec Bits S144x8192 .bf16) (q : Vec Bits S256x4096 .bf16)

variable {𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19 G22 x v q}

/-- The loop's last state: 13 key blocks summed, 12 value blocks accumulated, key block 12's exponentials kept. -/
theorem loop_end (hx : arg4.view.read (Elt Bits) X4 = x) (hv : arg5.view.read (Elt Bits) X5 = v)
    (hq : arg19.view.read (Elt Bits) X19 = q) (n : ℕ) (hn : n = 3) (w1 w2 o1 o2 S)
    (hS : S = st_k0_t1 (F := Bits) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19
        (arg20.view.writes (Elt Bits) arg20.view.junk [⟨Rect.unit (s := S128x4096) ![0, 0] S128x4096.size w1, k0_pay28 (F := Bits)⟩])
        (arg21.view.writes (Elt Bits) arg21.view.junk [⟨Rect.unit (s := S512x4096) ![0, 0] S512x4096.size w2, k0_pay31 (F := Bits) (kc x 0) q⟩])
        G22 (k0_pay32 (F := Bits) k0_pay29 (kc x 0) q) n) :
    S.1 = lN x q 13
    ∧ arg20.view.readCov (Val := Elt Bits) (S.2.1 ++ [⟨Rect.unit (s := S128x4096) ![0, 0] S128x4096.size w1, k0_pay28 (F := Bits)⟩])
        (Rect.unit (s := S128x4096) ![0, 0] S128x4096.size o1).toLoadRect = aN x v q 12
    ∧ arg21.view.readCov (Val := Elt Bits) (S.2.2.1 ++ [⟨Rect.unit (s := S512x4096) ![0, 0] S512x4096.size w2, k0_pay31 (F := Bits) (kc x 0) q⟩])
        (Rect.unit (s := S512x4096) ![0, 0] S512x4096.size o2).toLoadRect = prb (kc x 12) q := by
  have h := loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v51 X4 X5 X19
        (arg20.view.writes (Elt Bits) arg20.view.junk [⟨Rect.unit (s := S128x4096) ![0, 0] S128x4096.size w1, k0_pay28 (F := Bits)⟩])
        (arg21.view.writes (Elt Bits) arg21.view.junk [⟨Rect.unit (s := S512x4096) ![0, 0] S512x4096.size w2, k0_pay31 (F := Bits) (kc x 0) q⟩])
        G22 (k0_pay32 (F := Bits) k0_pay29 (kc x 0) q) x v q hx hv hq rfl
        (View.read_writes_full _ _ _ _ _) (View.read_writes_full _ _ _ _ _) n (by omega)
  rw [← hS] at h
  subst hn
  refine ⟨h.1, ?_, ?_⟩
  · exact (View.readAt_full _ _ o1).trans (by rw [View.writes_append]; exact h.2.1)
  · exact (View.readAt_full _ _ o2).trans (by rw [View.writes_append]; exact h.2.2)
end

/-- The last three key blocks summed. -/
theorem tail_l (x : Vec Bits S8192x256 .bf16) (q : Vec Bits S256x4096 .bf16) (l : FVec Bits S1x4096 .f32)
    (h : l = lN x q 13) :
    k0_pay43 (F := Bits) (k0_pay36 l (kc x 13) q) (kc x 14) q (kc x 15) q = lN x q 16 := by
  subst h; rfl

/-- The last four value blocks accumulated. -/
theorem tail_a (x : Vec Bits S8192x256 .bf16) (v : Vec Bits S144x8192 .bf16) (q : Vec Bits S256x4096 .bf16)
    (a : Vec Bits S128x4096 .f32) (p : Vec Bits S512x4096 .bf16) (h : a = aN x v q 12) (hp : p = prb (kc x 12) q) :
    k0_pay45 (F := Bits) (vc v 15) (k0_pay44 (vc v 14) (k0_pay40 (vc v 13) (k0_pay37 (vc v 12) a p)
      (k0_pay35 (kc x 13) q)) (k0_pay39 (kc x 14) q)) (k0_pay42 (kc x 15) q) = aN x v q 16 := by
  subst h hp; rfl

end Cert.Kernel.Attn

end
-- ==== Proof.AttnFrameBits.lean ====
/- The attention kernel run point by point: what each output block holds after a point, and the whole run.
  Of the kernel in its machine arithmetic.
-/
module

public import proofs.«01_k».proof.Proof.AttnRunBits
public import proofs.«01_k».proof.Proof.Gen.Kernel.Frame.Runs
public import Idealize.ShloMosaic.Lib.Claim

@[expose] public section

-- membership in a rectangle of production extents (`View.cover_of_tiled`): the elaborator's structural look
-- recurses once per coordinate of the long axes
set_option maxRecDepth 16384

noncomputable section

namespace Cert.Kernel.Attn

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable (m : (ℓ : Loc nD τ sig) → Buf (Elt Bits) ℓ) (ρ : Dev nD → PrngReg)
/-! ## The pipeline's proof data -/

/-- The proof data of the one pipeline on core `c`: the arrays as the region finds them (`V`); after the body at
    point `t` each input's buffer at its block and the outputs' at their values; the invariant the class's
    (Lib/Pipeline/Frame.lean `ΦA`: the scoped rest and the generator register); nothing owed; full shares. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => O10 (iblk m c 0 t) (iblk m c 1 t) (iblk m c 2 t) (iblk m c 3 t)
    | ⟨11, _⟩ => k0_pay17 (F := Bits) (iblk m c 4 t)
    | ⟨12, _⟩ => k0_pay18 (F := Bits) (iblk m c 5 t)
    | ⟨13, _⟩ => k0_pay19 (F := Bits) (iblk m c 6 t)
    | ⟨14, _⟩ => k0_pay20 (F := Bits) (iblk m c 7 t)
    | ⟨15, _⟩ => k0_pay21 (F := Bits) (iblk m c 8 t)
    | ⟨16, _⟩ => k0_pay22 (F := Bits) (iblk m c 9 t)
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = O10 (iblk m c 0 t) (iblk m c 1 t) (iblk m c 2 t) (iblk m c 3 t) := by dsimp only [dats]
theorem after0_11 (c : Dev nD) (t : Fin cfg0.N) : (dats m 0 c).after 11 t = k0_pay17 (F := Bits) (iblk m c 4 t) := by dsimp only [dats]
theorem after0_12 (c : Dev nD) (t : Fin cfg0.N) : (dats m 0 c).after 12 t = k0_pay18 (F := Bits) (iblk m c 5 t) := by dsimp only [dats]
theorem after0_13 (c : Dev nD) (t : Fin cfg0.N) : (dats m 0 c).after 13 t = k0_pay19 (F := Bits) (iblk m c 6 t) := by dsimp only [dats]
theorem after0_14 (c : Dev nD) (t : Fin cfg0.N) : (dats m 0 c).after 14 t = k0_pay20 (F := Bits) (iblk m c 7 t) := by dsimp only [dats]
theorem after0_15 (c : Dev nD) (t : Fin cfg0.N) : (dats m 0 c).after 15 t = k0_pay21 (F := Bits) (iblk m c 8 t) := by dsimp only [dats]
theorem after0_16 (c : Dev nD) (t : Fin cfg0.N) : (dats m 0 c).after 16 t = k0_pay22 (F := Bits) (iblk m c 9 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := Bits) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Bits)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Bits))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Bits))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- Every execution ends, with the arguments unchanged and every counter at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Attn

end
-- ==== Proof.FfnDownValue.lean ====
/- The second feed-forward product, added to the residual stream over two halves of the hidden width. -/
module

public import proofs.«01_k».proof.Proof.Gen.FfnDownRefIdeal.Run
public import proofs.«01_k».proof.Proof.Gen.FfnDownIdeal.Frame
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.FfnDownRefIdeal.Ref
open Cert.FfnDownRefIdeal Cert.FfnDownRefIdeal.Gen Idealize.ShloMosaic Idealize.ShloMosaic.TcCoe Idealize.SL.Sem Idealize.ShloMosaic.StableHlo

/-- The reference of the call. -/
def REF (X0 : FVec Ideal S8192x8192 .bf16) (X1 : FVec Ideal S8192x2048 .bf16) (X2 : FVec Ideal S8192x2048 .f32) :
    FVec Ideal S8192x2048 .f32 :=
  addf X2 (Host.dotGeneral dot_S8192x8192_S8192x2048_S8192x2048_1_0_0_1_n_n none (extf .f32 X0 bitsLt_bf16_f32) (extf .f32 X1 bitsLt_bf16_f32))

end Cert.FfnDownRefIdeal.Ref

namespace Cert.FfnDownIdeal.Value
open Cert.FfnDownIdeal Cert.FfnDownIdeal.Gen Idealize.ShloMosaic Idealize.ShloMosaic.TcCoe Idealize.SL.Sem
open Idealize.ShloMosaic.Pipeline (Dat)
open Cert.FfnDownRefIdeal.Ref

variable (m : (ℓ : Loc nD τ sig) → Buf (Elt Ideal) ℓ)

/-- The block each window holds at a point. -/
theorem idx : ∀ t : Fin cfg0.N, win0_0.index t = ![t.val / 4, t.val % 2]
    ∧ win0_1.index t = ![t.val % 2, t.val / 2 % 2]
    ∧ win0_2.index t = ![t.val / 4, t.val / 2 % 2]
    ∧ win0_3.index t = ![t.val / 4, t.val / 2 % 2] :=
  (by decide +kernel : ∀ t : Fin grid0.N, _)

/-- What one point adds. -/
theorem pay1_at (a : Vec Ideal S1024x1024 .f32) (x : Vec Ideal S1024x4096 .bf16) (w : Vec Ideal S4096x1024 .bf16) (y : S1024x1024.Idx) :
    k0_pay1 a x w y = a y + ∑ k : Fin 4096, x (ix2 (y 0) k) * w (ix2 k (y 1)) := by
  pointwise [k0_pay1]

/-- The reference, its product split in the two halves of the hidden width. -/
theorem ref_at (X0 : FVec Ideal S8192x8192 .bf16) (X1 : FVec Ideal S8192x2048 .bf16) (X2 : FVec Ideal S8192x2048 .f32) (j : S8192x2048.Idx) :
    REF X0 X1 X2 j = X2 j + ((∑ k : Fin 4096, X0 (ix2 (j 0) ⟨k.val, by omega⟩) * X1 (ix2 ⟨k.val, by omega⟩ (j 1)))
      + ∑ k : Fin 4096, X0 (ix2 (j 0) ⟨4096 + k.val, by omega⟩) * X1 (ix2 ⟨4096 + k.val, by omega⟩ (j 1))) := by
  rw [← Fin.sum_univ_two_halves 4096 4096 rfl (fun k : Fin 8192 => X0 (ix2 (j 0) k) * X1 (ix2 k (j 1)))]
  pointwise [REF]

theorem bound (t : Fin cfg0.N) : t.val - 1 < cfg0.N := Nat.lt_of_le_of_lt (Nat.sub_le _ _) t.isLt

theorem point (c : Dev nD) (t : Fin cfg0.N) (h : t.val % 2 = 1) (y : S1024x1024.Idx) :
    k0_pay1 (k0_pay1 (iblk m c 2 ⟨t.val - 1, bound t⟩) (iblk m c 0 ⟨t.val - 1, bound t⟩) (iblk m c 1 ⟨t.val - 1, bound t⟩)) (iblk m c 0 t) (iblk m c 1 t) y
      = REF (m ((c : Thread nD τ).loc main_arg0)) (m ((c : Thread nD τ).loc main_arg1)) (m ((c : Thread nD τ).loc main_arg2)) (((cfg0.win 3).blk t).view.emb y) := by
  rw [pay1_at, pay1_at, ref_at, add_assoc]
  blk_point [iblk, V, idx t, idx ⟨t.val - 1, bound t⟩]

/-- The result array. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  blk_simp
  rw [after0_3, outsAt0_B m c t (by omega), outsAt0_A m c ⟨t.val - 1, bound t⟩ (by show (t.val - 1) % 2 = 0; omega)]
  frame_out
  exact point m c t h1 y

end Cert.FfnDownIdeal.Value

namespace Cert.FfnDownValue
open Idealize.ShloMosaic

set_option maxHeartbeats 1600000 in
theorem algebraic : Cert.algebraic_FfnDownIdeal_FfnDownRefIdeal := by
  pair_intro
  · run_from Cert.FfnDownIdeal.Gen.run_main m g
  · run_from Cert.FfnDownRefIdeal.Value.run m' g'
    exact (Cert.FfnDownIdeal.Value.final m c).symm

end Cert.FfnDownValue

end
-- ==== Proof.FfnUpValue.lean ====
/- The first feed-forward product, its squared positive part. -/
module

public import proofs.«01_k».proof.Proof.Gen.FfnUpRefIdeal.Run
public import proofs.«01_k».proof.Proof.Gen.FfnUpIdeal.Frame
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.FfnUpRefIdeal.Ref
open Cert.FfnUpRefIdeal Cert.FfnUpRefIdeal.Gen Idealize.ShloMosaic Idealize.ShloMosaic.TcCoe Idealize.SL.Sem Idealize.ShloMosaic.StableHlo

/-- The reference of the call. -/
def REF (X0 : FVec Ideal S8192x2048 .bf16) (X1 : FVec Ideal S2048x8192 .bf16) :
    FVec Ideal S8192x8192 .bf16 :=
  truncf .bf16 (mulf (maximumf (Host.dotGeneral dot_S8192x2048_S2048x8192_S8192x8192_1_0_0_1_n_n none (extf .f32 X0 bitsLt_bf16_f32) (extf .f32 X1 bitsLt_bf16_f32)) (broadcastInDim S8192x8192 ![] bcast_S_S8192x8192 (constant S_ .f32 0x00000000#32))) (maximumf (Host.dotGeneral dot_S8192x2048_S2048x8192_S8192x8192_1_0_0_1_n_n none (extf .f32 X0 bitsLt_bf16_f32) (extf .f32 X1 bitsLt_bf16_f32)) (broadcastInDim S8192x8192 ![] bcast_S_S8192x8192 (constant S_ .f32 0x00000000#32)))) bitsLt_bf16_f32

end Cert.FfnUpRefIdeal.Ref

namespace Cert.FfnUpIdeal.Value
open Cert.FfnUpIdeal Cert.FfnUpIdeal.Gen Idealize.ShloMosaic Idealize.ShloMosaic.TcCoe Idealize.SL.Sem
open Idealize.ShloMosaic.Pipeline (Dat)
open Cert.FfnUpRefIdeal.Ref

variable (m : (ℓ : Loc nD τ sig) → Buf (Elt Ideal) ℓ)

/-- The block each window holds at a point. -/
theorem idx : ∀ t : Fin cfg0.N, win0_0.index t = ![t.val % 4, 0]
    ∧ win0_1.index t = ![0, t.val / 4]
    ∧ win0_2.index t = ![t.val % 4, t.val / 4] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The result array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.FfnUpIdeal.Value

namespace Cert.FfnUpValue
open Idealize.ShloMosaic

set_option maxHeartbeats 1600000 in
theorem algebraic : Cert.algebraic_FfnUpIdeal_FfnUpRefIdeal := by
  pair_intro
  · run_from Cert.FfnUpIdeal.Gen.run_main m g
  · run_from Cert.FfnUpRefIdeal.Value.run m' g'
    exact (Cert.FfnUpIdeal.Value.final m c).symm

end Cert.FfnUpValue

end
-- ==== Proof.GatesValue.lean ====
/- The gates: a logistic of a product. -/
module

public import proofs.«01_k».proof.Proof.Gen.GatesRefIdeal.Run
public import proofs.«01_k».proof.Proof.Gen.GatesIdeal.Frame
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.GatesRefIdeal.Ref
open Cert.GatesRefIdeal Cert.GatesRefIdeal.Gen Idealize.ShloMosaic Idealize.ShloMosaic.TcCoe Idealize.SL.Sem Idealize.ShloMosaic.StableHlo

/-- The reference of the call. -/
def REF (X0 : FVec Ideal S8192x2048 .bf16) (X1 : FVec Ideal S2048x9216 .f32) :
    FVec Ideal S8192x4096 .bf16 :=
  truncf .bf16 (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extractStridedSlice S8192x4096 ![0, 5120] (Host.dotGeneral dot_S8192x2048_S2048x9216_S8192x9216_1_0_0_1_n_n none (extf .f32 X0 bitsLt_bf16_f32) X1) slices_S8192x9216_S8192x4096_0_5120))))) bitsLt_bf16_f32

end Cert.GatesRefIdeal.Ref

namespace Cert.GatesIdeal.Value
open Cert.GatesIdeal Cert.GatesIdeal.Gen Idealize.ShloMosaic Idealize.ShloMosaic.TcCoe Idealize.SL.Sem
open Idealize.ShloMosaic.Pipeline (Dat)
open Cert.GatesRefIdeal.Ref

variable (m : (ℓ : Loc nD τ sig) → Buf (Elt Ideal) ℓ)

/-- The block each window holds at a point. -/
theorem idx : ∀ t : Fin cfg0.N, win0_0.index t = ![t.val % 4, 0]
    ∧ win0_1.index t = ![0, 5 + (t.val / 4)]
    ∧ win0_2.index t = ![t.val % 4, t.val / 4] :=
  (by decide +kernel : ∀ t : Fin grid0.N, _)

theorem pred_lt {n : ℕ} (hn : n < cfg0.N) : n - 1 < cfg0.N := Nat.lt_of_le_of_lt (Nat.sub_le _ _) hn

/-- Within a run of points the weight block stays. -/
theorem block_stays (c : Dev nD) (t : Fin cfg0.N) (h : ¬ t.val % 4 = 0) : iblk m c 1 ⟨t.val - 1, pred_lt t.isLt⟩ = iblk m c 1 t := by
  funext y
  blk_ext [iblk, V, idx t, idx ⟨t.val - 1, pred_lt t.isLt⟩]

/-- The array kept between points is the rounded weight block. -/
theorem kept (c : Dev nD) : ∀ (n : ℕ) (hn : n < cfg0.N), (outsAt0 m c n hn).2 = k0_pay1 (F := Ideal) (iblk m c 1 ⟨n, hn⟩) := by
  intro n
  induction n with
  | zero =>
    intro hn
    rw [outsAt0_A m c ⟨0, hn⟩ rfl]
    frame_out
  | succ n ih =>
    intro hn
    by_cases h : (n + 1) % 4 = 0
    · rw [outsAt0_A m c ⟨n + 1, hn⟩ h]
      frame_out
    · rw [outsAt0_B m c ⟨n + 1, hn⟩ h]
      refine Eq.trans ?_ (congrArg (k0_pay1 (F := Ideal)) (block_stays m c ⟨n + 1, hn⟩ h))
      exact ih (Nat.lt_of_succ_lt hn)

theorem point (c : Dev nD) (t : Fin cfg0.N) (y) :
    k0_pay2 (iblk m c 0 t) (k0_pay1 (iblk m c 1 t)) y = REF (m ((c : Thread nD τ).loc main_arg0)) (m ((c : Thread nD τ).loc main_arg1)) (((cfg0.win 2).blk t).view.emb y) := by
  pointwise [k0_pay2, k0_pay1, REF]
  simp only [zero_sub]
  blk_point [iblk, V, idx t]

theorem point_A (c : Dev nD) (t : Fin cfg0.N) (h0 : t.val % 4 = 0) (y) :
    (out0_A_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t)) y
      = REF (m ((c : Thread nD τ).loc main_arg0)) (m ((c : Thread nD τ).loc main_arg1)) (((cfg0.win 2).blk t).view.emb y) := by
  refine Eq.trans ?_ (point m c t y)
  frame_out

theorem point_B (c : Dev nD) (t : Fin cfg0.N) (h0 : ¬ t.val % 4 = 0) (xs) (hxs : xs = k0_pay1 (F := Ideal) (iblk m c 1 t)) (y) :
    (out0_B_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) xs) y
      = REF (m ((c : Thread nD τ).loc main_arg0)) (m ((c : Thread nD τ).loc main_arg1)) (((cfg0.win 2).blk t).view.emb y) := by
  subst hxs
  refine Eq.trans ?_ (point m c t y)
  frame_out
  first | rw [Memref.IsWhole.read_unread] | erw [Memref.IsWhole.read_unread]

/-- The result array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  by_cases h : t.val % 4 = 0
  · rw [outsAt0_A m c t h]
    dsimp only
    exact point_A m c t h y
  · rw [outsAt0_B m c t h]
    dsimp only
    exact point_B m c t h _ ((kept m c (t.val - 1) (pred_lt t.isLt)).trans (congrArg _ (block_stays m c t h))) y

end Cert.GatesIdeal.Value

namespace Cert.GatesValue
open Idealize.ShloMosaic

set_option maxHeartbeats 1600000 in
theorem algebraic : Cert.algebraic_GatesIdeal_GatesRefIdeal := by
  pair_intro
  · run_from Cert.GatesIdeal.Gen.run_main m g
  · run_from Cert.GatesRefIdeal.Value.run m' g'
    exact (Cert.GatesIdeal.Value.final m c).symm

end Cert.GatesValue

end
-- ==== Proof.PleValue.lean ====
/- The per-layer input and the last normalisation. -/
module

public import proofs.«01_k».proof.Proof.Gen.PleRefIdeal.Run
public import proofs.«01_k».proof.Proof.Gen.PleIdeal.Frame
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.PleRefIdeal.Ref
open Cert.PleRefIdeal Cert.PleRefIdeal.Gen Idealize.ShloMosaic Idealize.ShloMosaic.TcCoe Idealize.SL.Sem Idealize.ShloMosaic.StableHlo

/-- The reference of the call. -/
def REF (X0 : FVec Ideal S8192x2048 .f32) (X1 : FVec Ideal S8192x256 .f32) (X2 : FVec Ideal S2048 .f32) (X3 : FVec Ideal S2048x2048 .bf16) (X4 : FVec Ideal S256x2048 .f32) (X5 : FVec Ideal S2048 .f32) :
    FVec Ideal S8192x2048 .f32 :=
  mulf (mulf (addf X0 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf X0 (broadcastInDim S8192x2048 ![0, 1] bcast_S8192x1_S8192x2048_0_1 (Host.rsqrt (addf (Host.divf (broadcastInDim S8192x1 ![0] bcast_S8192_S8192x1_0 (Host.reduceAdd (mulf X0 X0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 X2))) (extf .f32 X3 bitsLt_bf16_f32)))))) (Host.dotGeneral dot_S8192x256_S256x2048_S8192x2048_1_0_0_1_n_n none X1 X4))) (broadcastInDim S8192x2048 ![0, 1] bcast_S8192x1_S8192x2048_0_1 (Host.rsqrt (addf (Host.divf (broadcastInDim S8192x1 ![0] bcast_S8192_S8192x1_0 (Host.reduceAdd (mulf (addf X0 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf X0 (broadcastInDim S8192x2048 ![0, 1] bcast_S8192x1_S8192x2048_0_1 (Host.rsqrt (addf (Host.divf (broadcastInDim S8192x1 ![0] bcast_S8192_S8192x1_0 (Host.reduceAdd (mulf X0 X0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 X2))) (extf .f32 X3 bitsLt_bf16_f32)))))) (Host.dotGeneral dot_S8192x256_S256x2048_S8192x2048_1_0_0_1_n_n none X1 X4))) (addf X0 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf X0 (broadcastInDim S8192x2048 ![0, 1] bcast_S8192x1_S8192x2048_0_1 (Host.rsqrt (addf (Host.divf (broadcastInDim S8192x1 ![0] bcast_S8192_S8192x1_0 (Host.reduceAdd (mulf X0 X0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 X2))) (extf .f32 X3 bitsLt_bf16_f32)))))) (Host.dotGeneral dot_S8192x256_S256x2048_S8192x2048_1_0_0_1_n_n none X1 X4)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 X5))

end Cert.PleRefIdeal.Ref

namespace Cert.PleIdeal.Value
open Cert.PleIdeal Cert.PleIdeal.Gen Idealize.ShloMosaic Idealize.ShloMosaic.TcCoe Idealize.SL.Sem
open Idealize.ShloMosaic.Pipeline (Dat)
open Cert.PleRefIdeal.Ref

variable (m : (ℓ : Loc nD τ sig) → Buf (Elt Ideal) ℓ)

/-- The block each window holds at a point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0] :=
  (by decide +kernel : ∀ t : Fin grid0.N, _)

theorem pred_lt {n : ℕ} (hn : n < cfg0.N) : n - 1 < cfg0.N := Nat.lt_of_le_of_lt (Nat.sub_le _ _) hn

/-- Within a run of points the weight block stays. -/
theorem block_stays (c : Dev nD) (t : Fin cfg0.N) (h : ¬ t.val % 16 = 0) : iblk m c 4 ⟨t.val - 1, pred_lt t.isLt⟩ = iblk m c 4 t := by
  funext y
  blk_ext [iblk, V, idx t, idx ⟨t.val - 1, pred_lt t.isLt⟩]

/-- The array kept between points is the rounded weight block. -/
theorem kept (c : Dev nD) : ∀ (n : ℕ) (hn : n < cfg0.N), (outsAt0 m c n hn).2 = k0_pay2 (F := Ideal) (iblk m c 4 ⟨n, hn⟩) := by
  intro n
  induction n with
  | zero =>
    intro hn
    rw [outsAt0_A m c ⟨0, hn⟩ rfl]
    frame_out
  | succ n ih =>
    intro hn
    by_cases h : (n + 1) % 16 = 0
    · rw [outsAt0_A m c ⟨n + 1, hn⟩ h]
      frame_out
    · rw [outsAt0_B m c ⟨n + 1, hn⟩ h]
      refine Eq.trans ?_ (congrArg (k0_pay2 (F := Ideal)) (block_stays m c ⟨n + 1, hn⟩ h))
      exact ih (Nat.lt_of_succ_lt hn)

theorem point (c : Dev nD) (t : Fin cfg0.N) (y) :
    k0_pay1 (k0_pay3 (iblk m c 0 t) (iblk m c 2 t) (iblk m c 3 t) (iblk m c 1 t) (k0_pay2 (iblk m c 4 t))) (k0_pay4 (iblk m c 5 t)) y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  pointwise [k0_pay1, k0_pay2, k0_pay3, k0_pay4, REF]
  simp only [zero_sub]
  blk_point [iblk, V, idx t]

theorem point_A (c : Dev nD) (t : Fin cfg0.N) (h0 : t.val % 16 = 0) (y) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  refine Eq.trans ?_ (point m c t y)
  frame_out

theorem point_B (c : Dev nD) (t : Fin cfg0.N) (h0 : ¬ t.val % 16 = 0) (xs) (hxs : xs = k0_pay2 (F := Ideal) (iblk m c 4 t)) (y) :
    (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) xs) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  subst hxs
  refine Eq.trans ?_ (point m c t y)
  frame_out
  first | rw [Memref.IsWhole.read_unread] | erw [Memref.IsWhole.read_unread]

/-- The result array. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 16 = 0
  · rw [outsAt0_A m c t h]
    dsimp only
    exact point_A m c t h y
  · rw [outsAt0_B m c t h]
    dsimp only
    exact point_B m c t h _ ((kept m c (t.val - 1) (pred_lt t.isLt)).trans (congrArg _ (block_stays m c t h))) y

end Cert.PleIdeal.Value

namespace Cert.PleValue
open Idealize.ShloMosaic

set_option maxHeartbeats 1600000 in
theorem algebraic : Cert.algebraic_PleIdeal_PleRefIdeal := by
  pair_intro
  · run_from Cert.PleIdeal.Gen.run_main m g
  · run_from Cert.PleRefIdeal.Value.run m' g'
    unfold Cert.PleRefIdeal.Value.res_main_v36
    simp only [hagree c]
    exact (Cert.PleIdeal.Value.final m c).symm

end Cert.PleValue

end
-- ==== Proof.OutProjValue.lean ====
/- The output product, the residual and its normalised copy. -/
module

public import proofs.«01_k».proof.Proof.Gen.OutProjRefIdeal.Run
public import proofs.«01_k».proof.Proof.Gen.OutProjIdeal.Frame
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.OutProjRefIdeal.Ref
open Cert.OutProjRefIdeal Cert.OutProjRefIdeal.Gen Idealize.ShloMosaic Idealize.ShloMosaic.TcCoe Idealize.SL.Sem Idealize.ShloMosaic.StableHlo

/-- The residual stream. -/
def REF4 (X0 : FVec Ideal S8192x2048 .bf16) (X1 : FVec Ideal S2048x2048 .bf16) (X2 : FVec Ideal S8192x2048 .f32) :
    FVec Ideal S8192x2048 .f32 :=
  addf X2 (Host.dotGeneral dot_S8192x2048_S2048x2048_S8192x2048_1_0_0_1_n_n none (extf .f32 X0 bitsLt_bf16_f32) (extf .f32 X1 bitsLt_bf16_f32))

/-- Its normalised copy. -/
def REF5 (X0 : FVec Ideal S8192x2048 .bf16) (X1 : FVec Ideal S2048x2048 .bf16) (X2 : FVec Ideal S8192x2048 .f32) (X3 : FVec Ideal S2048 .f32) :
    FVec Ideal S8192x2048 .bf16 :=
  truncf .bf16 (mulf (mulf (addf X2 (Host.dotGeneral dot_S8192x2048_S2048x2048_S8192x2048_1_0_0_1_n_n none (extf .f32 X0 bitsLt_bf16_f32) (extf .f32 X1 bitsLt_bf16_f32))) (broadcastInDim S8192x2048 ![0, 1] bcast_S8192x1_S8192x2048_0_1 (Host.rsqrt (addf (Host.divf (broadcastInDim S8192x1 ![0] bcast_S8192_S8192x1_0 (Host.reduceAdd (mulf (addf X2 (Host.dotGeneral dot_S8192x2048_S2048x2048_S8192x2048_1_0_0_1_n_n none (extf .f32 X0 bitsLt_bf16_f32) (extf .f32 X1 bitsLt_bf16_f32))) (addf X2 (Host.dotGeneral dot_S8192x2048_S2048x2048_S8192x2048_1_0_0_1_n_n none (extf .f32 X0 bitsLt_bf16_f32) (extf .f32 X1 bitsLt_bf16_f32)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 X3))) bitsLt_bf16_f32

end Cert.OutProjRefIdeal.Ref

namespace Cert.OutProjIdeal.Value
open Cert.OutProjIdeal Cert.OutProjIdeal.Gen Idealize.ShloMosaic Idealize.ShloMosaic.TcCoe Idealize.SL.Sem
open Idealize.ShloMosaic.Pipeline (Dat)
open Cert.OutProjRefIdeal.Ref

variable (m : (ℓ : Loc nD τ sig) → Buf (Elt Ideal) ℓ)

/-- The block each window holds at a point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

theorem point4 (c : Dev nD) (t : Fin cfg0.N) (y) :
    k0_pay1 (iblk m c 2 t) (iblk m c 0 t) (iblk m c 1 t) y
      = REF4 (m ((c : Thread nD τ).loc main_arg0)) (m ((c : Thread nD τ).loc main_arg1)) (m ((c : Thread nD τ).loc main_arg2)) (((cfg0.win 4).blk t).view.emb y) := by
  pointwise [k0_pay1, REF4]
  blk_point [iblk, V, idx t]

/-- The result array. -/
theorem final4 (c : Dev nD) : (dats m 0 c).arrAt 4 (cfgs 0).N = REF4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  exact point4 m c t y

theorem point5 (c : Dev nD) (t : Fin cfg0.N) (y) :
    k0_pay2 (iblk m c 2 t) (iblk m c 0 t) (iblk m c 1 t) (iblk m c 3 t) y
      = REF5 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay1, REF5]
  blk_point [iblk, V, idx t]

/-- The result array. -/
theorem final5 (c : Dev nD) : (dats m 0 c).arrAt 5 (cfgs 0).N = REF5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  exact point5 m c t y

end Cert.OutProjIdeal.Value

namespace Cert.OutProjValue
open Idealize.ShloMosaic

set_option maxHeartbeats 1600000 in
theorem algebraic : Cert.algebraic_OutProjIdeal_OutProjRefIdeal := by
  pair_intro
  · run_from Cert.OutProjIdeal.Gen.run_main m g
  · run_from Cert.OutProjRefIdeal.Value.run m' g'
    · exact (Cert.OutProjIdeal.Value.final4 m c).symm
    · exact (Cert.OutProjIdeal.Value.final5 m c).symm

end Cert.OutProjValue

end
-- ==== Proof.MergeValue.lean ====
/- The output projection of the attention, gated, added to the convolution branch. -/
module

public import proofs.«01_k».proof.Proof.Gen.MergeRefIdeal.Run
public import proofs.«01_k».proof.Proof.Gen.MergeIdeal.Frame
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.MergeRefIdeal.Ref
open Cert.MergeRefIdeal Cert.MergeRefIdeal.Gen Idealize.ShloMosaic Idealize.ShloMosaic.TcCoe Idealize.SL.Sem Idealize.ShloMosaic.StableHlo

/-- The reference of the call. -/
def REF (X0 : FVec Ideal S8192x2048 .bf16) (X1 : FVec Ideal S2048x2048 .bf16) (X2 : FVec Ideal S8192x2048 .f32) (X3 : FVec Ideal S8192x4096 .bf16) :
    FVec Ideal S8192x2048 .bf16 :=
  truncf .bf16 (addf X2 (mulf (extractStridedSlice S8192x2048 ![0, 2048] (extf .f32 X3 bitsLt_bf16_f32) slices_S8192x4096_S8192x2048_0_2048) (Host.dotGeneral dot_S8192x2048_S2048x2048_S8192x2048_1_0_0_1_n_n none (extf .f32 X0 bitsLt_bf16_f32) (extf .f32 X1 bitsLt_bf16_f32)))) bitsLt_bf16_f32

end Cert.MergeRefIdeal.Ref

namespace Cert.MergeIdeal.Value
open Cert.MergeIdeal Cert.MergeIdeal.Gen Idealize.ShloMosaic Idealize.ShloMosaic.TcCoe Idealize.SL.Sem
open Idealize.ShloMosaic.Pipeline (Dat)
open Cert.MergeRefIdeal.Ref

variable (m : (ℓ : Loc nD τ sig) → Buf (Elt Ideal) ℓ)

/-- The block each window holds at a point. -/
theorem idx : ∀ t : Fin cfg0.N, win0_0.index t = ![t.val % 8, 0]
    ∧ win0_1.index t = ![0, t.val / 8]
    ∧ win0_2.index t = ![t.val % 8, t.val / 8]
    ∧ win0_3.index t = ![t.val % 8, 2 + (t.val / 8)]
    ∧ win0_4.index t = ![t.val % 8, t.val / 8] :=
  (by decide +kernel : ∀ t : Fin grid0.N, _)

theorem point4 (c : Dev nD) (t : Fin cfg0.N) (y) :
    k0_pay1 (iblk m c 0 t) (iblk m c 1 t) (iblk m c 2 t) (iblk m c 3 t) y
      = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF]
  blk_point [iblk, V, idx t]

/-- The result array. -/
theorem final4 (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point4 m c t y

end Cert.MergeIdeal.Value

namespace Cert.MergeValue
open Idealize.ShloMosaic

set_option maxHeartbeats 1600000 in
theorem algebraic : Cert.algebraic_MergeIdeal_MergeRefIdeal := by
  pair_intro
  · run_from Cert.MergeIdeal.Gen.run_main m g
  · run_from Cert.MergeRefIdeal.Value.run m' g'
    exact (Cert.MergeIdeal.Value.final4 m c).symm

end Cert.MergeValue

end
-- ==== Proof.NormGluValue.lean ====
/- The first norm and the gated linear unit. -/
module

public import proofs.«01_k».proof.Proof.Gen.NormGluRefIdeal.Run
public import proofs.«01_k».proof.Proof.Gen.NormGluIdeal.Frame
public import proofs.«01_k».proof.Defs
public import Idealize.ShloMosaic.Lib.Pointwise
public import Idealize.ShloMosaic.Lib.Pipeline.ValueKit
public import Idealize.ShloMosaic.Lib.Claim
public import Idealize.ShloMosaic.Lib.VecWindow

@[expose] public section

set_option maxRecDepth 16384

noncomputable section

namespace Cert.NormGluRefIdeal.Ref
open Cert.NormGluRefIdeal Cert.NormGluRefIdeal.Gen Idealize.ShloMosaic Idealize.ShloMosaic.TcCoe Idealize.SL.Sem Idealize.ShloMosaic.StableHlo

/-- The gated linear unit. -/
def REF3 (X0 : FVec Ideal S8192x2048 .f32) (X1 : FVec Ideal S2048 .f32) (X2 : FVec Ideal S2048x9216 .f32) :
    FVec Ideal S8192x1024 .f32 :=
  mulf (extractStridedSlice S8192x1024 ![0, 0] (Host.dotGeneral dot_S8192x2048_S2048x9216_S8192x9216_1_0_0_1_n_n none (mulf (mulf X0 (broadcastInDim S8192x2048 ![0, 1] bcast_S8192x1_S8192x2048_0_1 (Host.rsqrt (addf (Host.divf (broadcastInDim S8192x1 ![0] bcast_S8192_S8192x1_0 (Host.reduceAdd (mulf X0 X0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 X1))) X2) slices_S8192x9216_S8192x1024_0_0) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] (Host.dotGeneral dot_S8192x2048_S2048x9216_S8192x9216_1_0_0_1_n_n none (mulf (mulf X0 (broadcastInDim S8192x2048 ![0, 1] bcast_S8192x1_S8192x2048_0_1 (Host.rsqrt (addf (Host.divf (broadcastInDim S8192x1 ![0] bcast_S8192_S8192x1_0 (Host.reduceAdd (mulf X0 X0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 X1))) X2) slices_S8192x9216_S8192x1024_0_1024)))))

/-- The normed rows. -/
def REF4 (X0 : FVec Ideal S8192x2048 .f32) (X1 : FVec Ideal S2048 .f32) :
    FVec Ideal S8192x2048 .bf16 :=
  truncf .bf16 (mulf (mulf X0 (broadcastInDim S8192x2048 ![0, 1] bcast_S8192x1_S8192x2048_0_1 (Host.rsqrt (addf (Host.divf (broadcastInDim S8192x1 ![0] bcast_S8192_S8192x1_0 (Host.reduceAdd (mulf X0 X0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 X1))) bitsLt_bf16_f32

/-- The normed rows, transposed tile by tile. -/
def REF5 (X0 : FVec Ideal S8192x2048 .f32) (X1 : FVec Ideal S2048 .f32) :
    FVec Ideal S16x2048x512 .bf16 :=
  truncf .bf16 (transpose S16x2048x512 [0, 2, 1] (shapeCast _ (mulf (mulf X0 (broadcastInDim S8192x2048 ![0, 1] bcast_S8192x1_S8192x2048_0_1 (Host.rsqrt (addf (Host.divf (broadcastInDim S8192x1 ![0] bcast_S8192_S8192x1_0 (Host.reduceAdd (mulf X0 X0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 X1))) shapeCasts_S8192x2048_S16x512x2048) transposes_S16x512x2048_S16x2048x512_0_2_1) bitsLt_bf16_f32

end Cert.NormGluRefIdeal.Ref

namespace Cert.NormGluIdeal.Value
open Cert.NormGluIdeal Cert.NormGluIdeal.Gen Idealize.ShloMosaic Idealize.ShloMosaic.TcCoe Idealize.SL.Sem
open Idealize.ShloMosaic.Pipeline (Dat)
open Cert.NormGluRefIdeal.Ref

variable (m : (ℓ : Loc nD τ sig) → Buf (Elt Ideal) ℓ)

/-- The block each window holds at a point. -/
theorem idx : ∀ t : Fin cfg0.N, win0_0.index t = ![t.val, 0]
    ∧ win0_1.index t = ![0, 0]
    ∧ win0_3.index t = ![t.val, 0]
    ∧ win0_4.index t = ![t.val, 0]
    ∧ win0_5.index t = ![t.val, 0, 0] :=
  (by decide +kernel : ∀ t : Fin grid0.N, _)

theorem idx2 : ∀ t : Fin cfg0.N, win0_2.index t = ![0, 0] :=
  (by decide +kernel : ∀ t : Fin grid0.N, _)

/-- The weight block: the first 2048 columns. -/
def WB (c : Dev nD) : Vec Ideal S2048x2048 .f32 := fun y =>
  m ((c : Thread nD τ).loc main_arg2) (ix2 (y 0) (⟨(y 1).val, Nat.lt_of_lt_of_le (y 1).isLt (by decide)⟩ : Fin 9216))

theorem wblk (c : Dev nD) (t : Fin cfg0.N) : X0_2 m c t = WB m c := by
  funext y
  unfold X0_2 Pipeline.Window.fill WB
  rw [dif_pos (moved0_2 t y)]
  blk_ext [iblk, V, idx2 t]

/-- The array kept between points is the rounded weight block. -/
theorem kept (c : Dev nD) : ∀ (n : ℕ) (hn : n < cfg0.N), (outsAt0 m c n hn).2.2.2 = k0_pay4 (F := Ideal) (WB m c) := by
  intro n
  induction n with
  | zero =>
    intro hn
    rw [outsAt0_A m c ⟨0, hn⟩ rfl, wblk]
    frame_out
  | succ n ih =>
    intro hn
    by_cases h : (n + 1) % 16 = 0
    · rw [outsAt0_A m c ⟨n + 1, hn⟩ h, wblk]
      frame_out
    · rw [outsAt0_B m c ⟨n + 1, hn⟩ h]
      exact ih (Nat.lt_of_succ_lt hn)

theorem point4 (c : Dev nD) (t : Fin cfg0.N) (y) :
    k0_pay6 (iblk m c 0 t) (iblk m c 1 t) y = REF4 (m ((c : Thread nD τ).loc main_arg0)) (m ((c : Thread nD τ).loc main_arg1)) (((cfg0.win 4).blk t).view.emb y) := by
  pointwise [k0_pay6, k0_pay5, REF4]
  blk_point [iblk, V, idx t]

/-- Half of the kept weights: the columns from `o`. -/
def half (w : Vec Ideal S2048x2048 .bf16) (o : ℕ) (ho : o + 1024 ≤ 2048) : Vec Ideal S2048x1024 .bf16 := fun y =>
  w (ix2 (y 0) (⟨o + (y 1).val, Nat.lt_of_lt_of_le (Nat.add_lt_add_left (y 1).isLt o) ho⟩ : Fin 2048))

theorem ld_half (w : Vec Ideal S2048x2048 .bf16) (o : ℕ) (ho : o + 1024 ≤ 2048) (i) :
    View.ld w (Rect.unit (s := S2048x2048) ![0, o] ![2048, 1024] i) = half w o ho := by
  funext y
  refine congrArg w (funext fun a => Fin.ext ?_)
  match a with
  | ⟨0, _⟩ => show 0 + 1 * (y 0).val = (y 0).val; omega
  | ⟨1, _⟩ => show o + 1 * (y 1).val = o + (y 1).val; omega

theorem cov_half (v : View sig .tc .vmem S2048x2048 .bf16) (w : Vec Ideal S2048x2048 .bf16) (o : ℕ) (ho : o + 1024 ≤ 2048) (i1 i2) :
    v.readCov (Val := Elt Ideal) [⟨Rect.unit (s := S2048x2048) ![0, 0] ![2048, 2048] i1, w⟩]
      (Rect.unit (s := S2048x2048) ![0, o] ![2048, 1024] i2).toLoadRect = half w o ho := by
  refine Eq.trans ?_ (ld_half w o ho i2)
  exact congrArg (fun z => View.ld z (Rect.unit (s := S2048x2048) ![0, o] ![2048, 1024] i2)) (View.read_writes_full v _ i1 w [])

theorem point3 (c : Dev nD) (t : Fin cfg0.N) (y) :
    k0_pay3 (k0_pay6 (iblk m c 0 t) (iblk m c 1 t)) (half (k0_pay4 (WB m c)) 0 (by decide)) (half (k0_pay4 (WB m c)) 1024 (by decide)) y
      = REF3 (m ((c : Thread nD τ).loc main_arg0)) (m ((c : Thread nD τ).loc main_arg1)) (m ((c : Thread nD τ).loc main_arg2)) (((cfg0.win 3).blk t).view.emb y) := by
  pointwise [k0_pay3, k0_pay6, k0_pay5, k0_pay4, half, WB, REF3]
  simp only [zero_sub]
  blk_point [iblk, V, idx t]

theorem point3_A (c : Dev nD) (t : Fin cfg0.N) (h0 : t.val % 16 = 0) (y) :
    (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (X0_2 m c t)) y
      = REF3 (m ((c : Thread nD τ).loc main_arg0)) (m ((c : Thread nD τ).loc main_arg1)) (m ((c : Thread nD τ).loc main_arg2)) (((cfg0.win 3).blk t).view.emb y) := by
  refine Eq.trans ?_ (point3 m c t y)
  rw [wblk]
  frame_out
  refine congrArg₂ (fun a b => k0_pay3 (F := Ideal) (k0_pay6 (iblk m c 0 t) (iblk m c 1 t)) a b y) ?_ ?_
  · exact cov_half _ _ 0 (by decide) _ _
  · exact cov_half _ _ 1024 (by decide) _ _

theorem point3_B (c : Dev nD) (t : Fin cfg0.N) (h0 : ¬ t.val % 16 = 0) (xs) (hxs : xs = k0_pay4 (F := Ideal) (WB m c)) (y) :
    (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (X0_2 m c t) xs) y
      = REF3 (m ((c : Thread nD τ).loc main_arg0)) (m ((c : Thread nD τ).loc main_arg1)) (m ((c : Thread nD τ).loc main_arg2)) (((cfg0.win 3).blk t).view.emb y) := by
  subst hxs
  refine Eq.trans ?_ (point3 m c t y)
  frame_out
  refine congrArg₂ (fun a b => k0_pay3 (F := Ideal) (k0_pay6 (iblk m c 0 t) (iblk m c 1 t)) a b y) ?_ ?_
  · exact (congrArg (fun z => View.ld z _) (Memref.IsWhole.read_unread _ _)).trans (ld_half _ 0 (by decide) _)
  · exact (congrArg (fun z => View.ld z _) (Memref.IsWhole.read_unread _ _)).trans (ld_half _ 1024 (by decide) _)

theorem point4_A (c : Dev nD) (t : Fin cfg0.N) (h0 : t.val % 16 = 0) (y) :
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (X0_2 m c t)) y
      = REF4 (m ((c : Thread nD τ).loc main_arg0)) (m ((c : Thread nD τ).loc main_arg1)) (((cfg0.win 4).blk t).view.emb y) := by
  refine Eq.trans ?_ (point4 m c t y)
  frame_out

theorem point4_B (c : Dev nD) (t : Fin cfg0.N) (h0 : ¬ t.val % 16 = 0) (xs) (y) :
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (X0_2 m c t) xs) y
      = REF4 (m ((c : Thread nD τ).loc main_arg0)) (m ((c : Thread nD τ).loc main_arg1)) (((cfg0.win 4).blk t).view.emb y) := by
  refine Eq.trans ?_ (point4 m c t y)
  frame_out

theorem point5 (c : Dev nD) (t : Fin cfg0.N) (y : S1x2048x512.Idx) :
    k0_pay5 (iblk m c 0 t) (iblk m c 1 t) (ix2 (y 2) (y 1)) = REF5 (m ((c : Thread nD τ).loc main_arg0)) (m ((c : Thread nD τ).loc main_arg1)) (((cfg0.win 5).blk t).view.emb y) := by
  pointwise [k0_pay5, REF5]
  blk_point [iblk, V, idx t]

set_option maxHeartbeats 1600000 in
theorem point5_A (c : Dev nD) (t : Fin cfg0.N) (h0 : t.val % 16 = 0) (y : S1x2048x512.Idx) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (X0_2 m c t)) y
      = REF5 (m ((c : Thread nD τ).loc main_arg0)) (m ((c : Thread nD τ).loc main_arg1)) (((cfg0.win 5).blk t).view.emb y) := by
  refine Eq.trans ?_ (point5 m c t y)
  frame_out
  canon_tiles x h
  all_goals
    simp only [k0_pay1, k0_pay2, k0_pay7, k0_pay8, k0_pay9, k0_pay10, k0_pay11, k0_pay12, k0_pay13, k0_pay14, k0_pay15, k0_pay16, k0_pay17, k0_pay18, k0_pay19, k0_pay20, k0_pay21, k0_pay22, k0_pay23]
    generalize k0_pay5 (F := Ideal) _ _ = Z
    pointwise
    refine congrArg Z (funext fun a => Fin.ext ?_)
    match a with
    | ⟨0, _⟩ => first | exact h2.symm | (dsimp; omega)
    | ⟨1, _⟩ => first | exact h1.symm | (dsimp; omega)

set_option maxHeartbeats 1600000 in
theorem point5_B (c : Dev nD) (t : Fin cfg0.N) (h0 : ¬ t.val % 16 = 0) (xs) (y : S1x2048x512.Idx) :
    (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (X0_2 m c t) xs) y
      = REF5 (m ((c : Thread nD τ).loc main_arg0)) (m ((c : Thread nD τ).loc main_arg1)) (((cfg0.win 5).blk t).view.emb y) := by
  refine Eq.trans ?_ (point5 m c t y)
  frame_out
  canon_tiles x h
  all_goals
    simp only [k0_pay1, k0_pay2, k0_pay7, k0_pay8, k0_pay9, k0_pay10, k0_pay11, k0_pay12, k0_pay13, k0_pay14, k0_pay15, k0_pay16, k0_pay17, k0_pay18, k0_pay19, k0_pay20, k0_pay21, k0_pay22, k0_pay23]
    generalize k0_pay5 (F := Ideal) _ _ = Z
    pointwise
    refine congrArg Z (funext fun a => Fin.ext ?_)
    match a with
    | ⟨0, _⟩ => first | exact h2.symm | (dsimp; omega)
    | ⟨1, _⟩ => first | exact h1.symm | (dsimp; omega)

/-- The result array. -/
theorem final3 (c : Dev nD) : (dats m 0 c).arrAt 3 (cfgs 0).N = REF3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  by_cases h : t.val % 16 = 0
  · rw [outsAt0_A m c t h]
    dsimp only
    exact point3_A m c t h y
  · rw [outsAt0_B m c t h]
    dsimp only
    exact point3_B m c t h _ (kept m c (t.val - 1) (Nat.lt_of_le_of_lt (Nat.sub_le _ _) t.isLt)) y

/-- The result array. -/
theorem final4 (c : Dev nD) : (dats m 0 c).arrAt 4 (cfgs 0).N = REF4 (m ((c : Thread nD τ).loc main_arg0)) (m ((c : Thread nD τ).loc main_arg1)) := by
  refine (dats m 0 c).arrAt_eq_of_covers 4 _ (by decide +kernel) fun t hf y => ?_
  blk_simp
  rw [after0_4]
  by_cases h : t.val % 16 = 0
  · rw [outsAt0_A m c t h]
    dsimp only
    exact point4_A m c t h y
  · rw [outsAt0_B m c t h]
    dsimp only
    exact point4_B m c t h _ y

/-- The result array. -/
theorem final5 (c : Dev nD) : (dats m 0 c).arrAt 5 (cfgs 0).N = REF5 (m ((c : Thread nD τ).loc main_arg0)) (m ((c : Thread nD τ).loc main_arg1)) := by
  refine (dats m 0 c).arrAt_eq_of_covers 5 _ (by decide +kernel) fun t hf y => ?_
  blk_simp
  rw [after0_5]
  by_cases h : t.val % 16 = 0
  · rw [outsAt0_A m c t h]
    dsimp only
    exact point5_A m c t h y
  · rw [outsAt0_B m c t h]
    dsimp only
    exact point5_B m c t h _ y

end Cert.NormGluIdeal.Value

namespace Cert.NormGluValue
open Idealize.ShloMosaic

set_option maxHeartbeats 1600000 in
theorem algebraic : Cert.algebraic_NormGluIdeal_NormGluRefIdeal := by
  pair_intro
  · run_from Cert.NormGluIdeal.Gen.run_main m g
  · run_from Cert.NormGluRefIdeal.Value.run m' g'
    · exact (Cert.NormGluIdeal.Value.final3 m c).symm
    · exact (Cert.NormGluIdeal.Value.final4 m c).symm
    · exact (Cert.NormGluIdeal.Value.final5 m c).symm

end Cert.NormGluValue

end
-- ==== Proof.lean ====
/- The claim, put together from the modules beside this one. -/
module

public import proofs.«01_k».proof.Defs
public import proofs.«01_k».proof.Proof.AttnClaim
public import proofs.«01_k».proof.Proof.AttnFrameBits
public import proofs.«01_k».proof.Proof.Gen.ReferenceIdeal.Run
public import proofs.«01_k».proof.Proof.Gen.FfnDown.Frame
public import proofs.«01_k».proof.Proof.Gen.FfnDownIdeal.Frame
public import proofs.«01_k».proof.Proof.Gen.FfnDownRefIdeal.Run
public import proofs.«01_k».proof.Proof.Gen.FfnUp.Frame
public import proofs.«01_k».proof.Proof.Gen.FfnUpIdeal.Frame
public import proofs.«01_k».proof.Proof.Gen.FfnUpRefIdeal.Run
public import proofs.«01_k».proof.Proof.Gen.Gates.Frame
public import proofs.«01_k».proof.Proof.Gen.GatesIdeal.Frame
public import proofs.«01_k».proof.Proof.Gen.GatesRefIdeal.Run
public import proofs.«01_k».proof.Proof.Gen.Ple.Frame
public import proofs.«01_k».proof.Proof.Gen.PleIdeal.Frame
public import proofs.«01_k».proof.Proof.Gen.PleRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.NormGlu.Frame
public import proofs.«01_k».proof.Proof.Gen.NormGluIdeal.Frame
public import proofs.«01_k».proof.Proof.Gen.NormGluRefIdeal.Run
public import proofs.«01_k».proof.Proof.Gen.Queries.Frame
public import proofs.«01_k».proof.Proof.Gen.QueriesIdeal.Frame
public import proofs.«01_k».proof.Proof.Gen.QueriesRefIdeal.Run
public import proofs.«01_k».proof.Proof.Gen.Keys.Frame
public import proofs.«01_k».proof.Proof.Gen.KeysIdeal.Frame
public import proofs.«01_k».proof.Proof.Gen.KeysRefIdeal.Run
public import proofs.«01_k».proof.Proof.FfnDownValue
public import proofs.«01_k».proof.Proof.FfnUpValue
public import proofs.«01_k».proof.Proof.GatesValue
public import proofs.«01_k».proof.Proof.PleValue
public import proofs.«01_k».proof.Proof.OutProjValue
public import proofs.«01_k».proof.Proof.MergeValue
public import proofs.«01_k».proof.Proof.NormGluValue
public import proofs.«01_k».proof.Proof.Gen.Pre_attention_inputs
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

theorem quiescent_ReferenceIdeal_proof : Cert.quiescent_ReferenceIdeal := fun m g _ =>
  θ_run_mono (Cert.ReferenceIdeal.Value.run m g) fun r h => ⟨fun c => (h c).2.2.2.2.2.2.2, sem_eq_zero_of_no_sems (by decide) r.2⟩

theorem quiescent_ReferenceIdeal_pre_attention_inputs_proof : Cert.quiescent_ReferenceIdeal_pre_attention_inputs := fun m g _ =>
  θ_run_mono (Cert.ReferenceIdeal.Value.run m g) fun r h => ⟨fun c => (h c).2.2.2.2.2.2.2, sem_eq_zero_of_no_sems (by decide) r.2⟩

theorem quiescent_FfnDownRefIdeal_proof : Cert.quiescent_FfnDownRefIdeal := fun m g _ =>
  θ_run_mono (Cert.FfnDownRefIdeal.Value.run m g) fun r h => ⟨fun c => (h c).2, sem_eq_zero_of_no_sems (by decide) r.2⟩

theorem quiescent_FfnUpRefIdeal_proof : Cert.quiescent_FfnUpRefIdeal := fun m g _ =>
  θ_run_mono (Cert.FfnUpRefIdeal.Value.run m g) fun r h => ⟨fun c => (h c).2, sem_eq_zero_of_no_sems (by decide) r.2⟩

theorem quiescent_GatesRefIdeal_proof : Cert.quiescent_GatesRefIdeal := fun m g _ =>
  θ_run_mono (Cert.GatesRefIdeal.Value.run m g) fun r h => ⟨fun c => (h c).2, sem_eq_zero_of_no_sems (by decide) r.2⟩

theorem quiescent_PleRefIdeal_proof : Cert.quiescent_PleRefIdeal := fun m g _ =>
  θ_run_mono (Cert.PleRefIdeal.Value.run m g) fun r h => ⟨fun c => (h c).2, sem_eq_zero_of_no_sems (by decide) r.2⟩

theorem quiescent_OutProjRefIdeal_proof : Cert.quiescent_OutProjRefIdeal := fun m g _ =>
  θ_run_mono (Cert.OutProjRefIdeal.Value.run m g) fun r h => ⟨fun c => (h c).2.2, sem_eq_zero_of_no_sems (by decide) r.2⟩

theorem quiescent_MergeRefIdeal_proof : Cert.quiescent_MergeRefIdeal := fun m g _ =>
  θ_run_mono (Cert.MergeRefIdeal.Value.run m g) fun r h => ⟨fun c => (h c).2, sem_eq_zero_of_no_sems (by decide) r.2⟩

theorem quiescent_NormGluRefIdeal_proof : Cert.quiescent_NormGluRefIdeal := fun m g _ =>
  θ_run_mono (Cert.NormGluRefIdeal.Value.run m g) fun r h => ⟨fun c => (h c).2.2.2, sem_eq_zero_of_no_sems (by decide) r.2⟩

theorem quiescent_QueriesRefIdeal_proof : Cert.quiescent_QueriesRefIdeal := fun m g _ =>
  θ_run_mono (Cert.QueriesRefIdeal.Value.run m g) fun r h => ⟨fun c => (h c).2, sem_eq_zero_of_no_sems (by decide) r.2⟩

theorem quiescent_KeysRefIdeal_proof : Cert.quiescent_KeysRefIdeal := fun m g _ =>
  θ_run_mono (Cert.KeysRefIdeal.Value.run m g) fun r h => ⟨fun c => (h c).2.2, sem_eq_zero_of_no_sems (by decide) r.2⟩

theorem claim : Cert.Claim := ⟨Cert.Kernel.Gen.facts, Cert.KernelIdeal.Gen.facts, Cert.ReferenceIdeal.Gen.facts, Cert.FfnDown.Gen.facts, Cert.FfnDownIdeal.Gen.facts, Cert.FfnDownRefIdeal.Gen.facts, Cert.FfnUp.Gen.facts, Cert.FfnUpIdeal.Gen.facts, Cert.FfnUpRefIdeal.Gen.facts, Cert.Gates.Gen.facts, Cert.GatesIdeal.Gen.facts, Cert.GatesRefIdeal.Gen.facts, Cert.Ple.Gen.facts, Cert.PleIdeal.Gen.facts, Cert.PleRefIdeal.Gen.facts, Cert.OutProj.Gen.facts, Cert.OutProjIdeal.Gen.facts, Cert.OutProjRefIdeal.Gen.facts, Cert.Merge.Gen.facts, Cert.MergeIdeal.Gen.facts, Cert.MergeRefIdeal.Gen.facts, Cert.NormGlu.Gen.facts, Cert.NormGluIdeal.Gen.facts, Cert.NormGluRefIdeal.Gen.facts, Cert.Queries.Gen.facts, Cert.QueriesIdeal.Gen.facts, Cert.QueriesRefIdeal.Gen.facts, Cert.Keys.Gen.facts, Cert.KeysIdeal.Gen.facts, Cert.KeysRefIdeal.Gen.facts, Cert.Pre_attention_inputs.Gen.facts,
  ⟨fun m ρ _ => Cert.Kernel.Attn.frame m ρ,
   fun m ρ _ => Cert.KernelIdeal.Attn.frame m ρ,
   fun m ρ _ => Cert.KernelIdeal.Attn.frame m ρ,
   quiescent_ReferenceIdeal_proof,
   quiescent_ReferenceIdeal_pre_attention_inputs_proof,
   fun m ρ _ => Cert.FfnDown.Gen.frame m ρ,
   fun m ρ _ => Cert.FfnDownIdeal.Gen.frame m ρ,
   quiescent_FfnDownRefIdeal_proof,
   fun m ρ _ => Cert.FfnUp.Gen.frame m ρ,
   fun m ρ _ => Cert.FfnUpIdeal.Gen.frame m ρ,
   quiescent_FfnUpRefIdeal_proof,
   fun m ρ _ => Cert.Gates.Gen.frame m ρ,
   fun m ρ _ => Cert.GatesIdeal.Gen.frame m ρ,
   quiescent_GatesRefIdeal_proof,
   fun m ρ _ => Cert.Ple.Gen.frame m ρ,
   fun m ρ _ => Cert.PleIdeal.Gen.frame m ρ,
   quiescent_PleRefIdeal_proof,
   fun m ρ _ => Cert.OutProj.Gen.frame m ρ,
   fun m ρ _ => Cert.OutProjIdeal.Gen.frame m ρ,
   quiescent_OutProjRefIdeal_proof,
   fun m ρ _ => Cert.Merge.Gen.frame m ρ,
   fun m ρ _ => Cert.MergeIdeal.Gen.frame m ρ,
   quiescent_MergeRefIdeal_proof,
   fun m ρ _ => Cert.NormGlu.Gen.frame m ρ,
   fun m ρ _ => Cert.NormGluIdeal.Gen.frame m ρ,
   quiescent_NormGluRefIdeal_proof,
   fun m ρ _ => Cert.Queries.Gen.frame m ρ,
   fun m ρ _ => Cert.QueriesIdeal.Gen.frame m ρ,
   quiescent_QueriesRefIdeal_proof,
   fun m ρ _ => Cert.Keys.Gen.frame m ρ,
   fun m ρ _ => Cert.KeysIdeal.Gen.frame m ρ,
   quiescent_KeysRefIdeal_proof,
   trivial,
   Cert.AttnClaim.algebraic,
   trivial,
   Cert.FfnDownValue.algebraic,
   trivial,
   Cert.FfnUpValue.algebraic,
   trivial,
   Cert.GatesValue.algebraic,
   trivial,
   Cert.PleValue.algebraic,
   trivial,
   Cert.OutProjValue.algebraic,
   trivial,
   Cert.MergeValue.algebraic,
   trivial,
   Cert.NormGluValue.algebraic,
   IdealRules.named_const.statement Cert.QueriesIdeal.κ "q_scale" .f32 0x3E0293EE#32 (((Real.sqrt 128)⁻¹ * (Real.log 2)⁻¹ : ℝ) : EReal) rfl,
   trivial⟩⟩

end Cert.Proof

end
